-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨4, ![2, 256, 8, 64]⟩ ⟨4, ![2, 4096, 8, 64]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 256, 8, 64]⟩ ⟨4, ![2, 4096, 8, 64]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 8, 64]⟩ ⟨4, ![2, 4096, 8, 64]⟩ 1 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = Layout.block ⟨4, ![2, 256, 8, 64]⟩ ⟨4, ![2, 4096, 8, 64]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .bf16) (main_arg1 : FVec F S2x256x8x64 .bf16) (main_arg2 : FVec F S2x256x8x64 .bf16) : IVec S2x256x8x64 1 :=
  let main_v0 : FVec F S2x256x8x64 .bf16 := Host.absf main_arg0
  let main_cst : FVec F S_ .bf16 := constant S_ .bf16 0x7F80#16
  let main_v1 : FVec F S2x256x8x64 .bf16 := broadcastInDim S2x256x8x64 ![] bcast_S_S2x256x8x64 main_cst
  let main_v2 : IVec S2x256x8x64 1 := cmpf .olt main_v0 main_v1
  let main_v3 : FVec F S2x256x8x64 .bf16 := Host.absf main_arg1
  let main_cst_0 : FVec F S_ .bf16 := constant S_ .bf16 0x7F80#16
  let main_v4 : FVec F S2x256x8x64 .bf16 := broadcastInDim S2x256x8x64 ![] bcast_S_S2x256x8x64 main_cst_0
  let main_v5 : IVec S2x256x8x64 1 := cmpf .olt main_v3 main_v4
  let main_v6 : IVec S2x256x8x64 1 := andi main_v2 main_v5
  main_v6
-- ==== Pre_finite_qk_ReferenceIdeal.lean ====
abbrev S2x4096x8x64 : Shape := ⟨4, ![2, 4096, 8, 64]⟩
abbrev S_ : Shape := ⟨0, ![]⟩

class Facts : Prop where
  bcast_S_S2x4096x8x64 : S_.BroadcastsInDim S2x4096x8x64 (![] : Fin 0 → Fin S2x4096x8x64.rank)

variable [Facts]

def fn {F : FTy → Type} [FloatOps F] (main_arg0 : FVec F S2x4096x8x64 .bf16) (main_arg1 : FVec F S2x4096x8x64 .bf16) (main_arg2 : FVec F S2x4096x8x64 .bf16) : IVec S2x4096x8x64 1 :=
  let main_v0 : FVec F S2x4096x8x64 .bf16 := Host.absf main_arg0
  let main_cst : FVec F S_ .bf16 := constant S_ .bf16 0x7F80#16
  let main_v1 : FVec F S2x4096x8x64 .bf16 := broadcastInDim S2x4096x8x64 ![] bcast_S_S2x4096x8x64 main_cst
  let main_v2 : IVec S2x4096x8x64 1 := cmpf .olt main_v0 main_v1
  let main_v3 : FVec F S2x4096x8x64 .bf16 := Host.absf main_arg1
  let main_cst_0 : FVec F S_ .bf16 := constant S_ .bf16 0x7F80#16
  let main_v4 : FVec F S2x4096x8x64 .bf16 := broadcastInDim S2x4096x8x64 ![] bcast_S_S2x4096x8x64 main_cst_0
  let main_v5 : IVec S2x4096x8x64 1 := cmpf .olt main_v3 main_v4
  let main_v6 : IVec S2x4096x8x64 1 := andi main_v2 main_v5
  main_v6
-- ==== Kernel.lean ====
abbrev S2x256x8x64 : Shape := ⟨4, ![2, 256, 8, 64]⟩
abbrev S2x8x256x64 : Shape := ⟨4, ![2, 8, 256, 64]⟩
abbrev S16x256x64 : Shape := ⟨3, ![16, 256, 64]⟩
abbrev S_ : Shape := ⟨0, ![]⟩
abbrev S1x16x256x64 : Shape := ⟨4, ![1, 16, 256, 64]⟩
abbrev S2x16x256x64 : Shape := ⟨4, ![2, 16, 256, 64]⟩
abbrev S16x2x16x256x64 : Shape := ⟨5, ![16, 2, 16, 256, 64]⟩
abbrev S16x256x1 : Shape := ⟨3, ![16, 256, 1]⟩
abbrev S3x2 : Shape := ⟨2, ![3, 2]⟩
abbrev S6x2 : Shape := ⟨2, ![6, 2]⟩
abbrev S1x1 : Shape := ⟨2, ![1, 1]⟩
abbrev S1x2x16x256x64 : Shape := ⟨5, ![1, 2, 16, 256, 64]⟩
abbrev S1x2x8x256x64 : Shape := ⟨5, ![1, 2, 8, 256, 64]⟩
abbrev S1x256x64 : Shape := ⟨3, ![1, 256, 64]⟩
abbrev S256x64 : Shape := ⟨2, ![256, 64]⟩
abbrev S1x1x1x256x64 : Shape := ⟨5, ![1, 1, 1, 256, 64]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩

abbrev nBuf : Space → Nat
  | .hbm => 18
  | .vmem => 7
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S2x8x256x64, .bf16⟩
  | .hbm, ⟨4, _⟩ => ⟨S16x256x64, .bf16⟩
  | .hbm, ⟨5, _⟩ => ⟨S_, .bf16⟩
  | .hbm, ⟨6, _⟩ => ⟨S16x256x64, .bf16⟩
  | .hbm, ⟨7, _⟩ => ⟨S16x256x64, .bf16⟩
  | .hbm, ⟨8, _⟩ => ⟨S2x8x256x64, .bf16⟩
  | .hbm, ⟨9, _⟩ => ⟨S16x256x64, .bf16⟩
  | .hbm, ⟨10, _⟩ => ⟨S2x8x256x64, .bf16⟩
  | .hbm, ⟨11, _⟩ => ⟨S16x256x64, .bf16⟩
  | .hbm, ⟨12, _⟩ => ⟨S1x16x256x64, .bf16⟩
  | .hbm, ⟨13, _⟩ => ⟨S1x16x256x64, .bf16⟩
  | .hbm, ⟨14, _⟩ => ⟨S2x16x256x64, .bf16⟩
  | .hbm, ⟨15, _⟩ => ⟨S16x256x64, .f32⟩
  | .hbm, ⟨16, _⟩ => ⟨S2x8x256x64, .f32⟩
  | .hbm, ⟨17, _⟩ => ⟨S2x256x8x64, .f32⟩
  | .local _ .vmem, ⟨0, _⟩ => ⟨S16x256x64, .bf16⟩
  | .local _ .vmem, ⟨1, _⟩ => ⟨S2x16x256x64, .bf16⟩
  | .local _ .vmem, ⟨2, _⟩ => ⟨S16x256x64, .f32⟩
  | .local _ .vmem, ⟨3, _⟩ => ⟨S16x2x16x256x64, .bf16⟩
  | .local _ .vmem, ⟨4, _⟩ => ⟨S16x256x64, .f32⟩
  | .local _ .vmem, ⟨5, _⟩ => ⟨S16x256x1, .f32⟩
  | .local _ .vmem, ⟨6, _⟩ => ⟨S16x256x1, .f32⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_7 : BitVec 32 := 1#32
  let v16 : BitVec 32 := Scalar.muli v7 c1_i32_7
  let v17 : BitVec 32 := Scalar.addi c0_i32 v16
  v17.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_9 : BitVec 32 := 1#32
  let v18 : BitVec 32 := Scalar.muli v10 c1_i32_9
  let v19 : BitVec 32 := Scalar.addi c0_i32_10 v18
  v19.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_12 : BitVec 32 := 1#32
  let v20 : BitVec 32 := Scalar.muli v12 c1_i32_12
  let v21 : BitVec 32 := Scalar.addi c0_i32_13 v20
  v21.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_5 : BitVec 32 := 16#32
  let v14 : BitVec 32 := Scalar.remsi v13 c16_i32_5
  let c1_i32_15 : BitVec 32 := 1#32
  let v22 : BitVec 32 := Scalar.muli v14 c1_i32_15
  let v23 : BitVec 32 := Scalar.addi c0_i32_16 v22
  v23.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_23 : BitVec 32 := 1#32
  let v24 : BitVec 32 := Scalar.muli v12 c1_i32_23
  let v25 : BitVec 32 := Scalar.addi c0_i32_24 v24
  v25.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_5 : BitVec 32 := 16#32
  let v14 : BitVec 32 := Scalar.remsi v13 c16_i32_5
  let c1_i32_45 : BitVec 32 := 1#32
  let v35 : BitVec 32 := Scalar.muli v14 c1_i32_45
  let v36 : BitVec 32 := Scalar.addi c0_i32_46 v35
  v36.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_68 : BitVec 32 := 1#32
  let v46 : BitVec 32 := Scalar.muli v7 c1_i32_68
  let v47 : BitVec 32 := Scalar.addi c0_i32_69 v46
  v47.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_91 : BitVec 32 := 1#32
  let v57 : BitVec 32 := Scalar.muli v10 c1_i32_91
  let v58 : BitVec 32 := Scalar.addi c0_i32_92 v57
  v58.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_114 : BitVec 32 := 1#32
  let v68 : BitVec 32 := Scalar.muli v12 c1_i32_114
  let v69 : BitVec 32 := Scalar.addi c0_i32_115 v68
  v69.toNat
def k0_dev10 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_5 : BitVec 32 := 16#32
  let v14 : BitVec 32 := Scalar.remsi v13 c16_i32_5
  let c1_i32_136 : BitVec 32 := 1#32
  let v79 : BitVec 32 := Scalar.muli v14 c1_i32_136
  let v80 : BitVec 32 := Scalar.addi c0_i32_137 v79
  v80.toNat
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_159 : BitVec 32 := 1#32
  let v90 : BitVec 32 := Scalar.muli v7 c1_i32_159
  let v91 : BitVec 32 := Scalar.addi c0_i32_160 v90
  v91.toNat
def k0_dev12 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_182 : BitVec 32 := 1#32
  let v101 : BitVec 32 := Scalar.muli v10 c1_i32_182
  let v102 : BitVec 32 := Scalar.addi c0_i32_183 v101
  v102.toNat
@[reducible] def k0_t1_loop : Scf.Loop 32 :=
  let c0_i32_208 : BitVec 32 := 0#32
  let c16_i32_209 : BitVec 32 := 16#32
  let v117 : BitVec 32 := Scalar.addi c0_i32_208 c16_i32_209
  let c1_i32_210 : BitVec 32 := 1#32
  ⟨c0_i32_208, v117, c1_i32_210⟩
def k0_off1 (k0_t1 : Fin k0_t1_loop.trips) : Fin 3 → Nat :=
  let c0_i32_208 : BitVec 32 := 0#32
  let c1_i32_210 : BitVec 32 := 1#32
  let arg13 : BitVec 32 := Scf.iv c0_i32_208 c1_i32_210 k0_t1
  let v1065 : Index := Scalar.indexCast arg13
  let c0_2314 : Index := 0#32
  let c0_2315 : Index := 0#32
  ![v1065.toNat, 0, 0]
def k0_off2 (k0_t1 : Fin k0_t1_loop.trips) : Fin 5 → Nat :=
  let c0_2316 : Index := 0#32
  let c0_2317 : Index := 0#32
  let c0_i32_208 : BitVec 32 := 0#32
  let c1_i32_210 : BitVec 32 := 1#32
  let arg13 : BitVec 32 := Scf.iv c0_i32_208 c1_i32_210 k0_t1
  let v1068 : Index := Scalar.indexCast arg13
  let c0_2318 : Index := 0#32
  let c0_2319 : Index := 0#32
  ![0, 0, v1068.toNat, 0, 0]
def k0_off3 (k0_t1 : Fin k0_t1_loop.trips) : Fin 5 → Nat :=
  let c0_2320 : Index := 0#32
  let c1_2321 : Index := 1#32
  let c0_i32_208 : BitVec 32 := 0#32
  let c1_i32_210 : BitVec 32 := 1#32
  let arg13 : BitVec 32 := Scf.iv c0_i32_208 c1_i32_210 k0_t1
  let v1071 : Index := Scalar.indexCast arg13
  let c0_2322 : Index := 0#32
  let c0_2323 : Index := 0#32
  ![0, 1, v1071.toNat, 0, 0]
def k0_off4 (k0_t1 : Fin k0_t1_loop.trips) : Fin 3 → Nat :=
  let c0_i32_208 : BitVec 32 := 0#32
  let c1_i32_210 : BitVec 32 := 1#32
  let arg13 : BitVec 32 := Scf.iv c0_i32_208 c1_i32_210 k0_t1
  let v1082 : Index := Scalar.indexCast arg13
  let c0_2326 : Index := 0#32
  let c0_2327 : Index := 0#32
  ![v1082.toNat, 0, 0]
def k0_dev13 (d0 : Dev nD) : Nat :=
  let c0_i32_242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_241 : BitVec 32 := 1#32
  let v127 : BitVec 32 := Scalar.muli v12 c1_i32_241
  let v128 : BitVec 32 := Scalar.addi c0_i32_242 v127
  v128.toNat
def k0_dev14 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_264 : BitVec 32 := 1#32
  let v139 : BitVec 32 := Scalar.muli v7 c1_i32_264
  let v140 : BitVec 32 := Scalar.addi c0_i32_265 v139
  v140.toNat
def k0_dev15 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_287 : BitVec 32 := 1#32
  let v151 : BitVec 32 := Scalar.muli v10 c1_i32_287
  let v152 : BitVec 32 := Scalar.addi c0_i32_288 v151
  v152.toNat
def k0_dev16 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3 : BitVec 32 := 4#32
  let v11 : BitVec 32 := Scalar.addi v2 c4_i32_3
  let c16_i32_4 : BitVec 32 := 16#32
  let v12 : BitVec 32 := Scalar.remsi v11 c16_i32_4
  let c1_i32_334 : BitVec 32 := 1#32
  let v172 : BitVec 32 := Scalar.muli v12 c1_i32_334
  let v173 : BitVec 32 := Scalar.addi c0_i32_335 v172
  v173.toNat
def k0_dev17 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_358 : BitVec 32 := 1#32
  let v184 : BitVec 32 := Scalar.muli v7 c1_i32_358
  let v185 : BitVec 32 := Scalar.addi c0_i32_359 v184
  v185.toNat
def k0_dev18 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_382 : BitVec 32 := 1#32
  let v196 : BitVec 32 := Scalar.muli v10 c1_i32_382
  let v197 : BitVec 32 := Scalar.addi c0_i32_383 v196
  v197.toNat
@[reducible] def k0_t2_loop : Scf.Loop 32 :=
  let c0_i32_400 : BitVec 32 := 0#32
  let c16_i32_401 : BitVec 32 := 16#32
  let v208 : BitVec 32 := Scalar.addi c0_i32_400 c16_i32_401
  let c1_i32_402 : BitVec 32 := 1#32
  ⟨c0_i32_400, v208, c1_i32_402⟩
def k0_off5 (k0_t2 : Fin k0_t2_loop.trips) : Fin 3 → Nat :=
  let c0_i32_400 : BitVec 32 := 0#32
  let c1_i32_402 : BitVec 32 := 1#32
  let arg13 : BitVec 32 := Scf.iv c0_i32_400 c1_i32_402 k0_t2
  let v1065 : Index := Scalar.indexCast arg13
  let c0_2314 : Index := 0#32
  let c0_2315 : Index := 0#32
  ![v1065.toNat, 0, 0]
def k0_off6 (k0_t2 : Fin k0_t2_loop.trips) : Fin 5 → Nat :=
  let c12_2316 : Index := 12#32
  let c0_2317 : Index := 0#32
  let c0_i32_400 : BitVec 32 := 0#32
  let c1_i32_402 : BitVec 32 := 1#32
  let arg13 : BitVec 32 := Scf.iv c0_i32_400 c1_i32_402 k0_t2
  let v1068 : Index := Scalar.indexCast arg13
  let c0_2318 : Index := 0#32
  let c0_2319 : Index := 0#32
  ![12, 0, v1068.toNat, 0, 0]
def k0_off7 (k0_t2 : Fin k0_t2_loop.trips) : Fin 5 → Nat :=
  let c12_2320 : Index := 12#32
  let c1_2321 : Index := 1#32
  let c0_i32_400 : BitVec 32 := 0#32
  let c1_i32_402 : BitVec 32 := 1#32
  let arg13 : BitVec 32 := Scf.iv c0_i32_400 c1_i32_402 k0_t2
  let v1071 : Index := Scalar.indexCast arg13
  let c0_2322 : Index := 0#32
  let c0_2323 : Index := 0#32
  ![12, 1, v1071.toNat, 0, 0]
def k0_off8 (k0_t2 : Fin k0_t2_loop.trips) : Fin 3 → Nat :=
  let c0_i32_400 : BitVec 32 := 0#32
  let c1_i32_402 : BitVec 32 := 1#32
  let arg13 : BitVec 32 := Scf.iv c0_i32_400 c1_i32_402 k0_t2
  let v1077 : Index := Scalar.indexCast arg13
  let c0_2325 : Index := 0#32
  let c0_2326 : Index := 0#32
  ![v1077.toNat, 0, 0]
def k0_dev19 (d0 : Dev nD) : Nat :=
  let c0_i32_433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_432 : BitVec 32 := 1#32
  let v218 : BitVec 32 := Scalar.muli v7 c1_i32_432
  let v219 : BitVec 32 := Scalar.addi c0_i32_433 v218
  v219.toNat
def k0_dev20 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_455 : BitVec 32 := 1#32
  let v230 : BitVec 32 := Scalar.muli v10 c1_i32_455
  let v231 : BitVec 32 := Scalar.addi c0_i32_456 v230
  v231.toNat
def k0_dev21 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_502 : BitVec 32 := 1#32
  let v251 : BitVec 32 := Scalar.muli v7 c1_i32_502
  let v252 : BitVec 32 := Scalar.addi c0_i32_503 v251
  v252.toNat
def k0_dev22 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_526 : BitVec 32 := 1#32
  let v263 : BitVec 32 := Scalar.muli v10 c1_i32_526
  let v264 : BitVec 32 := Scalar.addi c0_i32_527 v263
  v264.toNat
@[reducible] def k0_t3_loop : Scf.Loop 32 :=
  let c0_i32_544 : BitVec 32 := 0#32
  let c16_i32_545 : BitVec 32 := 16#32
  let v275 : BitVec 32 := Scalar.addi c0_i32_544 c16_i32_545
  let c1_i32_546 : BitVec 32 := 1#32
  ⟨c0_i32_544, v275, c1_i32_546⟩
def k0_off9 (k0_t3 : Fin k0_t3_loop.trips) : Fin 3 → Nat :=
  let c0_i32_544 : BitVec 32 := 0#32
  let c1_i32_546 : BitVec 32 := 1#32
  let arg13 : BitVec 32 := Scf.iv c0_i32_544 c1_i32_546 k0_t3
  let v1065 : Index := Scalar.indexCast arg13
  let c0_2314 : Index := 0#32
  let c0_2315 : Index := 0#32
  ![v1065.toNat, 0, 0]
def k0_off10 (k0_t3 : Fin k0_t3_loop.trips) : Fin 5 → Nat :=
  let c4_2316 : Index := 4#32
  let c0_2317 : Index := 0#32
  let c0_i32_544 : BitVec 32 := 0#32
  let c1_i32_546 : BitVec 32 := 1#32
  let arg13 : BitVec 32 := Scf.iv c0_i32_544 c1_i32_546 k0_t3
  let v1068 : Index := Scalar.indexCast arg13
  let c0_2318 : Index := 0#32
  let c0_2319 : Index := 0#32
  ![4, 0, v1068.toNat, 0, 0]
def k0_off11 (k0_t3 : Fin k0_t3_loop.trips) : Fin 5 → Nat :=
  let c4_2320 : Index := 4#32
  let c1_2321 : Index := 1#32
  let c0_i32_544 : BitVec 32 := 0#32
  let c1_i32_546 : BitVec 32 := 1#32
  let arg13 : BitVec 32 := Scf.iv c0_i32_544 c1_i32_546 k0_t3
  let v1071 : Index := Scalar.indexCast arg13
  let c0_2322 : Index := 0#32
  let c0_2323 : Index := 0#32
  ![4, 1, v1071.toNat, 0, 0]
def k0_off12 (k0_t3 : Fin k0_t3_loop.trips) : Fin 3 → Nat :=
  let c0_i32_544 : BitVec 32 := 0#32
  let c1_i32_546 : BitVec 32 := 1#32
  let arg13 : BitVec 32 := Scf.iv c0_i32_544 c1_i32_546 k0_t3
  let v1077 : Index := Scalar.indexCast arg13
  let c0_2325 : Index := 0#32
  let c0_2326 : Index := 0#32
  ![v1077.toNat, 0, 0]
def k0_dev23 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_577 : BitVec 32 := 1#32
  let v286 : BitVec 32 := Scalar.muli v7 c1_i32_577
  let v287 : BitVec 32 := Scalar.addi c0_i32_578 v286
  v287.toNat
def k0_dev24 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_600 : BitVec 32 := 1#32
  let v298 : BitVec 32 := Scalar.muli v10 c1_i32_600
  let v299 : BitVec 32 := Scalar.addi c0_i32_601 v298
  v299.toNat
def k0_dev25 (d0 : Dev nD) : Nat :=
  let c0_i32_649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_648 : BitVec 32 := 1#32
  let v320 : BitVec 32 := Scalar.muli v7 c1_i32_648
  let v321 : BitVec 32 := Scalar.addi c0_i32_649 v320
  v321.toNat
def k0_dev26 (d0 : Dev nD) : Nat :=
  let c0_i32_673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_672 : BitVec 32 := 1#32
  let v332 : BitVec 32 := Scalar.muli v10 c1_i32_672
  let v333 : BitVec 32 := Scalar.addi c0_i32_673 v332
  v333.toNat
@[reducible] def k0_t4_loop : Scf.Loop 32 :=
  let c0_i32_690 : BitVec 32 := 0#32
  let c16_i32_691 : BitVec 32 := 16#32
  let v344 : BitVec 32 := Scalar.addi c0_i32_690 c16_i32_691
  let c1_i32_692 : BitVec 32 := 1#32
  ⟨c0_i32_690, v344, c1_i32_692⟩
def k0_off13 (k0_t4 : Fin k0_t4_loop.trips) : Fin 3 → Nat :=
  let c0_i32_690 : BitVec 32 := 0#32
  let c1_i32_692 : BitVec 32 := 1#32
  let arg13 : BitVec 32 := Scf.iv c0_i32_690 c1_i32_692 k0_t4
  let v1065 : Index := Scalar.indexCast arg13
  let c0_2314 : Index := 0#32
  let c0_2315 : Index := 0#32
  ![v1065.toNat, 0, 0]
def k0_off14 (k0_t4 : Fin k0_t4_loop.trips) : Fin 5 → Nat :=
  let c8_2316 : Index := 8#32
  let c0_2317 : Index := 0#32
  let c0_i32_690 : BitVec 32 := 0#32
  let c1_i32_692 : BitVec 32 := 1#32
  let arg13 : BitVec 32 := Scf.iv c0_i32_690 c1_i32_692 k0_t4
  let v1068 : Index := Scalar.indexCast arg13
  let c0_2318 : Index := 0#32
  let c0_2319 : Index := 0#32
  ![8, 0, v1068.toNat, 0, 0]
def k0_off15 (k0_t4 : Fin k0_t4_loop.trips) : Fin 5 → Nat :=
  let c8_2320 : Index := 8#32
  let c1_2321 : Index := 1#32
  let c0_i32_690 : BitVec 32 := 0#32
  let c1_i32_692 : BitVec 32 := 1#32
  let arg13 : BitVec 32 := Scf.iv c0_i32_690 c1_i32_692 k0_t4
  let v1071 : Index := Scalar.indexCast arg13
  let c0_2322 : Index := 0#32
  let c0_2323 : Index := 0#32
  ![8, 1, v1071.toNat, 0, 0]
def k0_off16 (k0_t4 : Fin k0_t4_loop.trips) : Fin 3 → Nat :=
  let c0_i32_690 : BitVec 32 := 0#32
  let c1_i32_692 : BitVec 32 := 1#32
  let arg13 : BitVec 32 := Scf.iv c0_i32_690 c1_i32_692 k0_t4
  let v1077 : Index := Scalar.indexCast arg13
  let c0_2325 : Index := 0#32
  let c0_2326 : Index := 0#32
  ![v1077.toNat, 0, 0]
def k0_dev27 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_723 : BitVec 32 := 1#32
  let v354 : BitVec 32 := Scalar.muli v7 c1_i32_723
  let v355 : BitVec 32 := Scalar.addi c0_i32_724 v354
  v355.toNat
def k0_dev28 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_770 : BitVec 32 := 1#32
  let v375 : BitVec 32 := Scalar.muli v7 c1_i32_770
  let v376 : BitVec 32 := Scalar.addi c0_i32_771 v375
  v376.toNat
@[reducible] def k0_t5_loop : Scf.Loop 32 :=
  let c0_i32_788 : BitVec 32 := 0#32
  let c16_i32_789 : BitVec 32 := 16#32
  let v387 : BitVec 32 := Scalar.addi c0_i32_788 c16_i32_789
  let c1_i32_790 : BitVec 32 := 1#32
  ⟨c0_i32_788, v387, c1_i32_790⟩
def k0_off17 (k0_t5 : Fin k0_t5_loop.trips) : Fin 3 → Nat :=
  let c0_i32_788 : BitVec 32 := 0#32
  let c1_i32_790 : BitVec 32 := 1#32
  let arg13 : BitVec 32 := Scf.iv c0_i32_788 c1_i32_790 k0_t5
  let v1065 : Index := Scalar.indexCast arg13
  let c0_2314 : Index := 0#32
  let c0_2315 : Index := 0#32
  ![v1065.toNat, 0, 0]
def k0_off18 (k0_t5 : Fin k0_t5_loop.trips) : Fin 5 → Nat :=
  let c3_2316 : Index := 3#32
  let c0_2317 : Index := 0#32
  let c0_i32_788 : BitVec 32 := 0#32
  let c1_i32_790 : BitVec 32 := 1#32
  let arg13 : BitVec 32 := Scf.iv c0_i32_788 c1_i32_790 k0_t5
  let v1068 : Index := Scalar.indexCast arg13
  let c0_2318 : Index := 0#32
  let c0_2319 : Index := 0#32
  ![3, 0, v1068.toNat, 0, 0]
def k0_off19 (k0_t5 : Fin k0_t5_loop.trips) : Fin 5 → Nat :=
  let c3_2320 : Index := 3#32
  let c1_2321 : Index := 1#32
  let c0_i32_788 : BitVec 32 := 0#32
  let c1_i32_790 : BitVec 32 := 1#32
  let arg13 : BitVec 32 := Scf.iv c0_i32_788 c1_i32_790 k0_t5
  let v1071 : Index := Scalar.indexCast arg13
  let c0_2322 : Index := 0#32
  let c0_2323 : Index := 0#32
  ![3, 1, v1071.toNat, 0, 0]
def k0_off20 (k0_t5 : Fin k0_t5_loop.trips) : Fin 3 → Nat :=
  let c0_i32_788 : BitVec 32 := 0#32
  let c1_i32_790 : BitVec 32 := 1#32
  let arg13 : BitVec 32 := Scf.iv c0_i32_788 c1_i32_790 k0_t5
  let v1077 : Index := Scalar.indexCast arg13
  let c0_2325 : Index := 0#32
  let c0_2326 : Index := 0#32
  ![v1077.toNat, 0, 0]
@[reducible] def k0_t6_loop : Scf.Loop 32 :=
  let c0_i32_838 : BitVec 32 := 0#32
  let c16_i32_839 : BitVec 32 := 16#32
  let v406 : BitVec 32 := Scalar.addi c0_i32_838 c16_i32_839
  let c1_i32_840 : BitVec 32 := 1#32
  ⟨c0_i32_838, v406, c1_i32_840⟩
def k0_off21 (k0_t6 : Fin k0_t6_loop.trips) : Fin 3 → Nat :=
  let c0_i32_838 : BitVec 32 := 0#32
  let c1_i32_840 : BitVec 32 := 1#32
  let arg13 : BitVec 32 := Scf.iv c0_i32_838 c1_i32_840 k0_t6
  let v1065 : Index := Scalar.indexCast arg13
  let c0_2314 : Index := 0#32
  let c0_2315 : Index := 0#32
  ![v1065.toNat, 0, 0]
def k0_off22 (k0_t6 : Fin k0_t6_loop.trips) : Fin 5 → Nat :=
  let c1_2316 : Index := 1#32
  let c0_2317 : Index := 0#32
  let c0_i32_838 : BitVec 32 := 0#32
  let c1_i32_840 : BitVec 32 := 1#32
  let arg13 : BitVec 32 := Scf.iv c0_i32_838 c1_i32_840 k0_t6
  let v1068 : Index := Scalar.indexCast arg13
  let c0_2318 : Index := 0#32
  let c0_2319 : Index := 0#32
  ![1, 0, v1068.toNat, 0, 0]
def k0_off23 (k0_t6 : Fin k0_t6_loop.trips) : Fin 5 → Nat :=
  let c1_2320 : Index := 1#32
  let c1_2321 : Index := 1#32
  let c0_i32_838 : BitVec 32 := 0#32
  let c1_i32_840 : BitVec 32 := 1#32
  let arg13 : BitVec 32 := Scf.iv c0_i32_838 c1_i32_840 k0_t6
  let v1071 : Index := Scalar.indexCast arg13
  let c0_2322 : Index := 0#32
  let c0_2323 : Index := 0#32
  ![1, 1, v1071.toNat, 0, 0]
def k0_off24 (k0_t6 : Fin k0_t6_loop.trips) : Fin 3 → Nat :=
  let c0_i32_838 : BitVec 32 := 0#32
  let c1_i32_840 : BitVec 32 := 1#32
  let arg13 : BitVec 32 := Scf.iv c0_i32_838 c1_i32_840 k0_t6
  let v1077 : Index := Scalar.indexCast arg13
  let c0_2325 : Index := 0#32
  let c0_2326 : Index := 0#32
  ![v1077.toNat, 0, 0]
def k0_dev29 (d0 : Dev nD) : Nat :=
  let c0_i32_872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_871 : BitVec 32 := 1#32
  let v417 : BitVec 32 := Scalar.muli v7 c1_i32_871
  let v418 : BitVec 32 := Scalar.addi c0_i32_872 v417
  v418.toNat
def k0_dev30 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c4_i32_1 : BitVec 32 := 4#32
  let v6 : BitVec 32 := Scalar.remsi v5 c4_i32_1
  let v7 : BitVec 32 := Scalar.addi v4 v6
  let c1_i32_919 : BitVec 32 := 1#32
  let v439 : BitVec 32 := Scalar.muli v7 c1_i32_919
  let v440 : BitVec 32 := Scalar.addi c0_i32_920 v439
  v440.toNat
@[reducible] def k0_t7_loop : Scf.Loop 32 :=
  let c0_i32_937 : BitVec 32 := 0#32
  let c16_i32_938 : BitVec 32 := 16#32
  let v451 : BitVec 32 := Scalar.addi c0_i32_937 c16_i32_938
  let c1_i32_939 : BitVec 32 := 1#32
  ⟨c0_i32_937, v451, c1_i32_939⟩
def k0_off25 (k0_t7 : Fin k0_t7_loop.trips) : Fin 3 → Nat :=
  let c0_i32_937 : BitVec 32 := 0#32
  let c1_i32_939 : BitVec 32 := 1#32
  let arg13 : BitVec 32 := Scf.iv c0_i32_937 c1_i32_939 k0_t7
  let v1065 : Index := Scalar.indexCast arg13
  let c0_2314 : Index := 0#32
  let c0_2315 : Index := 0#32
  ![v1065.toNat, 0, 0]
def k0_off26 (k0_t7 : Fin k0_t7_loop.trips) : Fin 5 → Nat :=
  let c7_2316 : Index := 7#32
  let c0_2317 : Index := 0#32
  let c0_i32_937 : BitVec 32 := 0#32
  let c1_i32_939 : BitVec 32 := 1#32
  let arg13 : BitVec 32 := Scf.iv c0_i32_937 c1_i32_939 k0_t7
  let v1068 : Index := Scalar.indexCast arg13
  let c0_2318 : Index := 0#32
  let c0_2319 : Index := 0#32
  ![7, 0, v1068.toNat, 0, 0]
def k0_off27 (k0_t7 : Fin k0_t7_loop.trips) : Fin 5 → Nat :=
  let c7_2320 : Index := 7#32
  let c1_2321 : Index := 1#32
  let c0_i32_937 : BitVec 32 := 0#32
  let c1_i32_939 : BitVec 32 := 1#32
  let arg13 : BitVec 32 := Scf.iv c0_i32_937 c1_i32_939 k0_t7
  let v1071 : Index := Scalar.indexCast arg13
  let c0_2322 : Index := 0#32
  let c0_2323 : Index := 0#32
  ![7, 1, v1071.toNat, 0, 0]
def k0_off28 (k0_t7 : Fin k0_t7_loop.trips) : Fin 3 → Nat :=
  let c0_i32_937 : BitVec 32 := 0#32
  let c1_i32_939 : BitVec 32 := 1#32
  let arg13 : BitVec 32 := Scf.iv c0_i32_937 c1_i32_939 k0_t7
  let v1077 : Index := Scalar.indexCast arg13
  let c0_2325 : Index := 0#32
  let c0_2326 : Index := 0#32
  ![v1077.toNat, 0, 0]
@[reducible] def k0_t8_loop : Scf.Loop 32 :=
  let c0_i32_989 : BitVec 32 := 0#32
  let c16_i32_990 : BitVec 32 := 16#32
  let v472 : BitVec 32 := Scalar.addi c0_i32_989 c16_i32_990
  let c1_i32_991 : BitVec 32 := 1#32
  ⟨c0_i32_989, v472, c1_i32_991⟩
def k0_off29 (k0_t8 : Fin k0_t8_loop.trips) : Fin 3 → Nat :=
  let c0_i32_989 : BitVec 32 := 0#32
  let c1_i32_991 : BitVec 32 := 1#32
  let arg13 : BitVec 32 := Scf.iv c0_i32_989 c1_i32_991 k0_t8
  let v1065 : Index := Scalar.indexCast arg13
  let c0_2314 : Index := 0#32
  let c0_2315 : Index := 0#32
  ![v1065.toNat, 0, 0]
def k0_off30 (k0_t8 : Fin k0_t8_loop.trips) : Fin 5 → Nat :=
  let c5_2316 : Index := 5#32
  let c0_2317 : Index := 0#32
  let c0_i32_989 : BitVec 32 := 0#32
  let c1_i32_991 : BitVec 32 := 1#32
  let arg13 : BitVec 32 := Scf.iv c0_i32_989 c1_i32_991 k0_t8
  let v1068 : Index := Scalar.indexCast arg13
  let c0_2318 : Index := 0#32
  let c0_2319 : Index := 0#32
  ![5, 0, v1068.toNat, 0, 0]
def k0_off31 (k0_t8 : Fin k0_t8_loop.trips) : Fin 5 → Nat :=
  let c5_2320 : Index := 5#32
  let c1_2321 : Index := 1#32
  let c0_i32_989 : BitVec 32 := 0#32
  let c1_i32_991 : BitVec 32 := 1#32
  let arg13 : BitVec 32 := Scf.iv c0_i32_989 c1_i32_991 k0_t8
  let v1071 : Index := Scalar.indexCast arg13
  let c0_2322 : Index := 0#32
  let c0_2323 : Index := 0#32
  ![5, 1, v1071.toNat, 0, 0]
def k0_off32 (k0_t8 : Fin k0_t8_loop.trips) : Fin 3 → Nat :=
  let c0_i32_989 : BitVec 32 := 0#32
  let c1_i32_991 : BitVec 32 := 1#32
  let arg13 : BitVec 32 := Scf.iv c0_i32_989 c1_i32_991 k0_t8
  let v1077 : Index := Scalar.indexCast arg13
  let c0_2325 : Index := 0#32
  let c0_2326 : Index := 0#32
  ![v1077.toNat, 0, 0]
@[reducible] def k0_t9_loop : Scf.Loop 32 :=
  let c0_i32_1041 : BitVec 32 := 0#32
  let c16_i32_1042 : BitVec 32 := 16#32
  let v493 : BitVec 32 := Scalar.addi c0_i32_1041 c16_i32_1042
  let c1_i32_1043 : BitVec 32 := 1#32
  ⟨c0_i32_1041, v493, c1_i32_1043⟩
def k0_off33 (k0_t9 : Fin k0_t9_loop.trips) : Fin 3 → Nat :=
  let c0_i32_1041 : BitVec 32 := 0#32
  let c1_i32_1043 : BitVec 32 := 1#32
  let arg13 : BitVec 32 := Scf.iv c0_i32_1041 c1_i32_1043 k0_t9
  let v1065 : Index := Scalar.indexCast arg13
  let c0_2314 : Index := 0#32
  let c0_2315 : Index := 0#32
  ![v1065.toNat, 0, 0]
def k0_off34 (k0_t9 : Fin k0_t9_loop.trips) : Fin 5 → Nat :=
  let c11_2316 : Index := 11#32
  let c0_2317 : Index := 0#32
  let c0_i32_1041 : BitVec 32 := 0#32
  let c1_i32_1043 : BitVec 32 := 1#32
  let arg13 : BitVec 32 := Scf.iv c0_i32_1041 c1_i32_1043 k0_t9
  let v1068 : Index := Scalar.indexCast arg13
  let c0_2318 : Index := 0#32
  let c0_2319 : Index := 0#32
  ![11, 0, v1068.toNat, 0, 0]
def k0_off35 (k0_t9 : Fin k0_t9_loop.trips) : Fin 5 → Nat :=
  let c11_2320 : Index := 11#32
  let c1_2321 : Index := 1#32
  let c0_i32_1041 : BitVec 32 := 0#32
  let c1_i32_1043 : BitVec 32 := 1#32
  let arg13 : BitVec 32 := Scf.iv c0_i32_1041 c1_i32_1043 k0_t9
  let v1071 : Index := Scalar.indexCast arg13
  let c0_2322 : Index := 0#32
  let c0_2323 : Index := 0#32
  ![11, 1, v1071.toNat, 0, 0]
def k0_off36 (k0_t9 : Fin k0_t9_loop.trips) : Fin 3 → Nat :=
  let c0_i32_1041 : BitVec 32 := 0#32
  let c1_i32_1043 : BitVec 32 := 1#32
  let arg13 : BitVec 32 := Scf.iv c0_i32_1041 c1_i32_1043 k0_t9
  let v1077 : Index := Scalar.indexCast arg13
  let c0_2325 : Index := 0#32
  let c0_2326 : Index := 0#32
  ![v1077.toNat, 0, 0]
def k0_dev31 (d0 : Dev nD) : Nat :=
  let c0_i32_1075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1074 : BitVec 32 := 1#32
  let v504 : BitVec 32 := Scalar.muli v10 c1_i32_1074
  let v505 : BitVec 32 := Scalar.addi c0_i32_1075 v504
  v505.toNat
def k0_dev32 (d0 : Dev nD) : Nat :=
  let c0_i32_1123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1122 : BitVec 32 := 1#32
  let v526 : BitVec 32 := Scalar.muli v10 c1_i32_1122
  let v527 : BitVec 32 := Scalar.addi c0_i32_1123 v526
  v527.toNat
@[reducible] def k0_t10_loop : Scf.Loop 32 :=
  let c0_i32_1140 : BitVec 32 := 0#32
  let c16_i32_1141 : BitVec 32 := 16#32
  let v538 : BitVec 32 := Scalar.addi c0_i32_1140 c16_i32_1141
  let c1_i32_1142 : BitVec 32 := 1#32
  ⟨c0_i32_1140, v538, c1_i32_1142⟩
def k0_off37 (k0_t10 : Fin k0_t10_loop.trips) : Fin 3 → Nat :=
  let c0_i32_1140 : BitVec 32 := 0#32
  let c1_i32_1142 : BitVec 32 := 1#32
  let arg13 : BitVec 32 := Scf.iv c0_i32_1140 c1_i32_1142 k0_t10
  let v1065 : Index := Scalar.indexCast arg13
  let c0_2314 : Index := 0#32
  let c0_2315 : Index := 0#32
  ![v1065.toNat, 0, 0]
def k0_off38 (k0_t10 : Fin k0_t10_loop.trips) : Fin 5 → Nat :=
  let c9_2316 : Index := 9#32
  let c0_2317 : Index := 0#32
  let c0_i32_1140 : BitVec 32 := 0#32
  let c1_i32_1142 : BitVec 32 := 1#32
  let arg13 : BitVec 32 := Scf.iv c0_i32_1140 c1_i32_1142 k0_t10
  let v1068 : Index := Scalar.indexCast arg13
  let c0_2318 : Index := 0#32
  let c0_2319 : Index := 0#32
  ![9, 0, v1068.toNat, 0, 0]
def k0_off39 (k0_t10 : Fin k0_t10_loop.trips) : Fin 5 → Nat :=
  let c9_2320 : Index := 9#32
  let c1_2321 : Index := 1#32
  let c0_i32_1140 : BitVec 32 := 0#32
  let c1_i32_1142 : BitVec 32 := 1#32
  let arg13 : BitVec 32 := Scf.iv c0_i32_1140 c1_i32_1142 k0_t10
  let v1071 : Index := Scalar.indexCast arg13
  let c0_2322 : Index := 0#32
  let c0_2323 : Index := 0#32
  ![9, 1, v1071.toNat, 0, 0]
def k0_off40 (k0_t10 : Fin k0_t10_loop.trips) : Fin 3 → Nat :=
  let c0_i32_1140 : BitVec 32 := 0#32
  let c1_i32_1142 : BitVec 32 := 1#32
  let arg13 : BitVec 32 := Scf.iv c0_i32_1140 c1_i32_1142 k0_t10
  let v1077 : Index := Scalar.indexCast arg13
  let c0_2325 : Index := 0#32
  let c0_2326 : Index := 0#32
  ![v1077.toNat, 0, 0]
@[reducible] def k0_t11_loop : Scf.Loop 32 :=
  let c0_i32_1192 : BitVec 32 := 0#32
  let c16_i32_1193 : BitVec 32 := 16#32
  let v559 : BitVec 32 := Scalar.addi c0_i32_1192 c16_i32_1193
  let c1_i32_1194 : BitVec 32 := 1#32
  ⟨c0_i32_1192, v559, c1_i32_1194⟩
def k0_off41 (k0_t11 : Fin k0_t11_loop.trips) : Fin 3 → Nat :=
  let c0_i32_1192 : BitVec 32 := 0#32
  let c1_i32_1194 : BitVec 32 := 1#32
  let arg13 : BitVec 32 := Scf.iv c0_i32_1192 c1_i32_1194 k0_t11
  let v1065 : Index := Scalar.indexCast arg13
  let c0_2314 : Index := 0#32
  let c0_2315 : Index := 0#32
  ![v1065.toNat, 0, 0]
def k0_off42 (k0_t11 : Fin k0_t11_loop.trips) : Fin 5 → Nat :=
  let c15_2316 : Index := 15#32
  let c0_2317 : Index := 0#32
  let c0_i32_1192 : BitVec 32 := 0#32
  let c1_i32_1194 : BitVec 32 := 1#32
  let arg13 : BitVec 32 := Scf.iv c0_i32_1192 c1_i32_1194 k0_t11
  let v1068 : Index := Scalar.indexCast arg13
  let c0_2318 : Index := 0#32
  let c0_2319 : Index := 0#32
  ![15, 0, v1068.toNat, 0, 0]
def k0_off43 (k0_t11 : Fin k0_t11_loop.trips) : Fin 5 → Nat :=
  let c15_2320 : Index := 15#32
  let c1_2321 : Index := 1#32
  let c0_i32_1192 : BitVec 32 := 0#32
  let c1_i32_1194 : BitVec 32 := 1#32
  let arg13 : BitVec 32 := Scf.iv c0_i32_1192 c1_i32_1194 k0_t11
  let v1071 : Index := Scalar.indexCast arg13
  let c0_2322 : Index := 0#32
  let c0_2323 : Index := 0#32
  ![15, 1, v1071.toNat, 0, 0]
def k0_off44 (k0_t11 : Fin k0_t11_loop.trips) : Fin 3 → Nat :=
  let c0_i32_1192 : BitVec 32 := 0#32
  let c1_i32_1194 : BitVec 32 := 1#32
  let arg13 : BitVec 32 := Scf.iv c0_i32_1192 c1_i32_1194 k0_t11
  let v1077 : Index := Scalar.indexCast arg13
  let c0_2325 : Index := 0#32
  let c0_2326 : Index := 0#32
  ![v1077.toNat, 0, 0]
def k0_dev33 (d0 : Dev nD) : Nat :=
  let c0_i32_1226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1225 : BitVec 32 := 1#32
  let v570 : BitVec 32 := Scalar.muli v10 c1_i32_1225
  let v571 : BitVec 32 := Scalar.addi c0_i32_1226 v570
  v571.toNat
def k0_dev34 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v8 : BitVec 32 := Scalar.addi v3 c3_i32
  let c4_i32_2 : BitVec 32 := 4#32
  let v9 : BitVec 32 := Scalar.remsi v8 c4_i32_2
  let v10 : BitVec 32 := Scalar.addi v4 v9
  let c1_i32_1273 : BitVec 32 := 1#32
  let v592 : BitVec 32 := Scalar.muli v10 c1_i32_1273
  let v593 : BitVec 32 := Scalar.addi c0_i32_1274 v592
  v593.toNat
@[reducible] def k0_t12_loop : Scf.Loop 32 :=
  let c0_i32_1291 : BitVec 32 := 0#32
  let c16_i32_1292 : BitVec 32 := 16#32
  let v604 : BitVec 32 := Scalar.addi c0_i32_1291 c16_i32_1292
  let c1_i32_1293 : BitVec 32 := 1#32
  ⟨c0_i32_1291, v604, c1_i32_1293⟩
def k0_off45 (k0_t12 : Fin k0_t12_loop.trips) : Fin 3 → Nat :=
  let c0_i32_1291 : BitVec 32 := 0#32
  let c1_i32_1293 : BitVec 32 := 1#32
  let arg13 : BitVec 32 := Scf.iv c0_i32_1291 c1_i32_1293 k0_t12
  let v1065 : Index := Scalar.indexCast arg13
  let c0_2314 : Index := 0#32
  let c0_2315 : Index := 0#32
  ![v1065.toNat, 0, 0]
def k0_off46 (k0_t12 : Fin k0_t12_loop.trips) : Fin 5 → Nat :=
  let c13_2316 : Index := 13#32
  let c0_2317 : Index := 0#32
  let c0_i32_1291 : BitVec 32 := 0#32
  let c1_i32_1293 : BitVec 32 := 1#32
  let arg13 : BitVec 32 := Scf.iv c0_i32_1291 c1_i32_1293 k0_t12
  let v1068 : Index := Scalar.indexCast arg13
  let c0_2318 : Index := 0#32
  let c0_2319 : Index := 0#32
  ![13, 0, v1068.toNat, 0, 0]
def k0_off47 (k0_t12 : Fin k0_t12_loop.trips) : Fin 5 → Nat :=
  let c13_2320 : Index := 13#32
  let c1_2321 : Index := 1#32
  let c0_i32_1291 : BitVec 32 := 0#32
  let c1_i32_1293 : BitVec 32 := 1#32
  let arg13 : BitVec 32 := Scf.iv c0_i32_1291 c1_i32_1293 k0_t12
  let v1071 : Index := Scalar.indexCast arg13
  let c0_2322 : Index := 0#32
  let c0_2323 : Index := 0#32
  ![13, 1, v1071.toNat, 0, 0]
def k0_off48 (k0_t12 : Fin k0_t12_loop.trips) : Fin 3 → Nat :=
  let c0_i32_1291 : BitVec 32 := 0#32
  let c1_i32_1293 : BitVec 32 := 1#32
  let arg13 : BitVec 32 := Scf.iv c0_i32_1291 c1_i32_1293 k0_t12
  let v1077 : Index := Scalar.indexCast arg13
  let c0_2325 : Index := 0#32
  let c0_2326 : Index := 0#32
  ![v1077.toNat, 0, 0]
@[reducible] def k0_t13_loop : Scf.Loop 32 :=
  let c0_i32_1343 : BitVec 32 := 0#32
  let c16_i32_1344 : BitVec 32 := 16#32
  let v625 : BitVec 32 := Scalar.addi c0_i32_1343 c16_i32_1344
  let c1_i32_1345 : BitVec 32 := 1#32
  ⟨c0_i32_1343, v625, c1_i32_1345⟩
def k0_off49 (k0_t13 : Fin k0_t13_loop.trips) : Fin 3 → Nat :=
  let c0_i32_1343 : BitVec 32 := 0#32
  let c1_i32_1345 : BitVec 32 := 1#32
  let arg13 : BitVec 32 := Scf.iv c0_i32_1343 c1_i32_1345 k0_t13
  let v1065 : Index := Scalar.indexCast arg13
  let c0_2314 : Index := 0#32
  let c0_2315 : Index := 0#32
  ![v1065.toNat, 0, 0]
def k0_off50 (k0_t13 : Fin k0_t13_loop.trips) : Fin 5 → Nat :=
  let c2_2316 : Index := 2#32
  let c0_2317 : Index := 0#32
  let c0_i32_1343 : BitVec 32 := 0#32
  let c1_i32_1345 : BitVec 32 := 1#32
  let arg13 : BitVec 32 := Scf.iv c0_i32_1343 c1_i32_1345 k0_t13
  let v1068 : Index := Scalar.indexCast arg13
  let c0_2318 : Index := 0#32
  let c0_2319 : Index := 0#32
  ![2, 0, v1068.toNat, 0, 0]
def k0_off51 (k0_t13 : Fin k0_t13_loop.trips) : Fin 5 → Nat :=
  let c2_2320 : Index := 2#32
  let c1_2321 : Index := 1#32
  let c0_i32_1343 : BitVec 32 := 0#32
  let c1_i32_1345 : BitVec 32 := 1#32
  let arg13 : BitVec 32 := Scf.iv c0_i32_1343 c1_i32_1345 k0_t13
  let v1071 : Index := Scalar.indexCast arg13
  let c0_2322 : Index := 0#32
  let c0_2323 : Index := 0#32
  ![2, 1, v1071.toNat, 0, 0]
def k0_off52 (k0_t13 : Fin k0_t13_loop.trips) : Fin 3 → Nat :=
  let c0_i32_1343 : BitVec 32 := 0#32
  let c1_i32_1345 : BitVec 32 := 1#32
  let arg13 : BitVec 32 := Scf.iv c0_i32_1343 c1_i32_1345 k0_t13
  let v1077 : Index := Scalar.indexCast arg13
  let c0_2325 : Index := 0#32
  let c0_2326 : Index := 0#32
  ![v1077.toNat, 0, 0]
@[reducible] def k0_t14_loop : Scf.Loop 32 :=
  let c0_i32_1395 : BitVec 32 := 0#32
  let c16_i32_1396 : BitVec 32 := 16#32
  let v646 : BitVec 32 := Scalar.addi c0_i32_1395 c16_i32_1396
  let c1_i32_1397 : BitVec 32 := 1#32
  ⟨c0_i32_1395, v646, c1_i32_1397⟩
def k0_off53 (k0_t14 : Fin k0_t14_loop.trips) : Fin 3 → Nat :=
  let c0_i32_1395 : BitVec 32 := 0#32
  let c1_i32_1397 : BitVec 32 := 1#32
  let arg13 : BitVec 32 := Scf.iv c0_i32_1395 c1_i32_1397 k0_t14
  let v1065 : Index := Scalar.indexCast arg13
  let c0_2314 : Index := 0#32
  let c0_2315 : Index := 0#32
  ![v1065.toNat, 0, 0]
def k0_off54 (k0_t14 : Fin k0_t14_loop.trips) : Fin 5 → Nat :=
  let c6_2316 : Index := 6#32
  let c0_2317 : Index := 0#32
  let c0_i32_1395 : BitVec 32 := 0#32
  let c1_i32_1397 : BitVec 32 := 1#32
  let arg13 : BitVec 32 := Scf.iv c0_i32_1395 c1_i32_1397 k0_t14
  let v1068 : Index := Scalar.indexCast arg13
  let c0_2318 : Index := 0#32
  let c0_2319 : Index := 0#32
  ![6, 0, v1068.toNat, 0, 0]
def k0_off55 (k0_t14 : Fin k0_t14_loop.trips) : Fin 5 → Nat :=
  let c6_2320 : Index := 6#32
  let c1_2321 : Index := 1#32
  let c0_i32_1395 : BitVec 32 := 0#32
  let c1_i32_1397 : BitVec 32 := 1#32
  let arg13 : BitVec 32 := Scf.iv c0_i32_1395 c1_i32_1397 k0_t14
  let v1071 : Index := Scalar.indexCast arg13
  let c0_2322 : Index := 0#32
  let c0_2323 : Index := 0#32
  ![6, 1, v1071.toNat, 0, 0]
def k0_off56 (k0_t14 : Fin k0_t14_loop.trips) : Fin 3 → Nat :=
  let c0_i32_1395 : BitVec 32 := 0#32
  let c1_i32_1397 : BitVec 32 := 1#32
  let arg13 : BitVec 32 := Scf.iv c0_i32_1395 c1_i32_1397 k0_t14
  let v1077 : Index := Scalar.indexCast arg13
  let c0_2325 : Index := 0#32
  let c0_2326 : Index := 0#32
  ![v1077.toNat, 0, 0]
@[reducible] def k0_t15_loop : Scf.Loop 32 :=
  let c0_i32_1447 : BitVec 32 := 0#32
  let c16_i32_1448 : BitVec 32 := 16#32
  let v667 : BitVec 32 := Scalar.addi c0_i32_1447 c16_i32_1448
  let c1_i32_1449 : BitVec 32 := 1#32
  ⟨c0_i32_1447, v667, c1_i32_1449⟩
def k0_off57 (k0_t15 : Fin k0_t15_loop.trips) : Fin 3 → Nat :=
  let c0_i32_1447 : BitVec 32 := 0#32
  let c1_i32_1449 : BitVec 32 := 1#32
  let arg13 : BitVec 32 := Scf.iv c0_i32_1447 c1_i32_1449 k0_t15
  let v1065 : Index := Scalar.indexCast arg13
  let c0_2314 : Index := 0#32
  let c0_2315 : Index := 0#32
  ![v1065.toNat, 0, 0]
def k0_off58 (k0_t15 : Fin k0_t15_loop.trips) : Fin 5 → Nat :=
  let c10_2316 : Index := 10#32
  let c0_2317 : Index := 0#32
  let c0_i32_1447 : BitVec 32 := 0#32
  let c1_i32_1449 : BitVec 32 := 1#32
  let arg13 : BitVec 32 := Scf.iv c0_i32_1447 c1_i32_1449 k0_t15
  let v1068 : Index := Scalar.indexCast arg13
  let c0_2318 : Index := 0#32
  let c0_2319 : Index := 0#32
  ![10, 0, v1068.toNat, 0, 0]
def k0_off59 (k0_t15 : Fin k0_t15_loop.trips) : Fin 5 → Nat :=
  let c10_2320 : Index := 10#32
  let c1_2321 : Index := 1#32
  let c0_i32_1447 : BitVec 32 := 0#32
  let c1_i32_1449 : BitVec 32 := 1#32
  let arg13 : BitVec 32 := Scf.iv c0_i32_1447 c1_i32_1449 k0_t15
  let v1071 : Index := Scalar.indexCast arg13
  let c0_2322 : Index := 0#32
  let c0_2323 : Index := 0#32
  ![10, 1, v1071.toNat, 0, 0]
def k0_off60 (k0_t15 : Fin k0_t15_loop.trips) : Fin 3 → Nat :=
  let c0_i32_1447 : BitVec 32 := 0#32
  let c1_i32_1449 : BitVec 32 := 1#32
  let arg13 : BitVec 32 := Scf.iv c0_i32_1447 c1_i32_1449 k0_t15
  let v1077 : Index := Scalar.indexCast arg13
  let c0_2325 : Index := 0#32
  let c0_2326 : Index := 0#32
  ![v1077.toNat, 0, 0]
@[reducible] def k0_t16_loop : Scf.Loop 32 :=
  let c0_i32_1499 : BitVec 32 := 0#32
  let c16_i32_1500 : BitVec 32 := 16#32
  let v688 : BitVec 32 := Scalar.addi c0_i32_1499 c16_i32_1500
  let c1_i32_1501 : BitVec 32 := 1#32
  ⟨c0_i32_1499, v688, c1_i32_1501⟩
def k0_off61 (k0_t16 : Fin k0_t16_loop.trips) : Fin 3 → Nat :=
  let c0_i32_1499 : BitVec 32 := 0#32
  let c1_i32_1501 : BitVec 32 := 1#32
  let arg13 : BitVec 32 := Scf.iv c0_i32_1499 c1_i32_1501 k0_t16
  let v1065 : Index := Scalar.indexCast arg13
  let c0_2314 : Index := 0#32
  let c0_2315 : Index := 0#32
  ![v1065.toNat, 0, 0]
def k0_off62 (k0_t16 : Fin k0_t16_loop.trips) : Fin 5 → Nat :=
  let c14_2316 : Index := 14#32
  let c0_2317 : Index := 0#32
  let c0_i32_1499 : BitVec 32 := 0#32
  let c1_i32_1501 : BitVec 32 := 1#32
  let arg13 : BitVec 32 := Scf.iv c0_i32_1499 c1_i32_1501 k0_t16
  let v1068 : Index := Scalar.indexCast arg13
  let c0_2318 : Index := 0#32
  let c0_2319 : Index := 0#32
  ![14, 0, v1068.toNat, 0, 0]
def k0_off63 (k0_t16 : Fin k0_t16_loop.trips) : Fin 5 → Nat :=
  let c14_2320 : Index := 14#32
  let c1_2321 : Index := 1#32
  let c0_i32_1499 : BitVec 32 := 0#32
  let c1_i32_1501 : BitVec 32 := 1#32
  let arg13 : BitVec 32 := Scf.iv c0_i32_1499 c1_i32_1501 k0_t16
  let v1071 : Index := Scalar.indexCast arg13
  let c0_2322 : Index := 0#32
  let c0_2323 : Index := 0#32
  ![14, 1, v1071.toNat, 0, 0]
def k0_off64 (k0_t16 : Fin k0_t16_loop.trips) : Fin 3 → Nat :=
  let c0_i32_1499 : BitVec 32 := 0#32
  let c1_i32_1501 : BitVec 32 := 1#32
  let arg13 : BitVec 32 := Scf.iv c0_i32_1499 c1_i32_1501 k0_t16
  let v1077 : Index := Scalar.indexCast arg13
  let c0_2325 : Index := 0#32
  let c0_2326 : Index := 0#32
  ![v1077.toNat, 0, 0]
abbrev stage0_0 : Fin 1 → Memref sig .tc .vmem S16x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x4096x8x64 : Shape := ⟨4, ![2, 4096, 8, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x8x64, .bf16⟩
  | .hbm, ⟨1, _⟩ => ⟨S2x4096x8x64, .bf16⟩
  | .hbm, ⟨2, _⟩ => ⟨S2x4096x8x64, .bf16⟩
  | .hbm, ⟨3, _⟩ => ⟨S2x4096x8x64, .f32⟩
  | .hbm, ⟨4, _⟩ => ⟨S2x4096x8x64, .f32⟩
  | .hbm, ⟨5, _⟩ => ⟨S2x4096x8x64, .f32⟩
  | .hbm, ⟨6, _⟩ => ⟨S2x8x4096x4096, .f32⟩
  | .hbm, ⟨7, _⟩ => ⟨S_, .f32⟩
  | .hbm, ⟨8, _⟩ => ⟨S2x8x4096x4096, .f32⟩
  | .hbm, ⟨9, _⟩ => ⟨S2x8x4096x4096, .f32⟩
  | .hbm, ⟨10, _⟩ => ⟨S_, .f32⟩
  | .hbm, ⟨11, _⟩ => ⟨S2x8x4096, .f32⟩
  | .hbm, ⟨12, _⟩ => ⟨S2x8x4096x1, .f32⟩
  | .hbm, ⟨13, _⟩ => ⟨S2x8x4096x4096, .f32⟩
  | .hbm, ⟨14, _⟩ => ⟨S2x8x4096x4096, .f32⟩
  | .hbm, ⟨15, _⟩ => ⟨S2x8x4096x4096, .f32⟩
  | .hbm, ⟨16, _⟩ => ⟨S_, .f32⟩
  | .hbm, ⟨17, _⟩ => ⟨S2x8x4096, .f32⟩
  | .hbm, ⟨18, _⟩ => ⟨S2x8x4096x1, .f32⟩
  | .hbm, ⟨19, _⟩ => ⟨S2x8x4096x4096, .f32⟩
  | .hbm, ⟨20, _⟩ => ⟨S2x8x4096x4096, .f32⟩
  | .hbm, ⟨21, _⟩ => ⟨S2x8x64x4096, .f32⟩
  | .hbm, ⟨22, _⟩ => ⟨S2x4096x8x64, .f32⟩
  | _, _ => ⟨S2x4096x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Shape.lean ====
/-
  The kernel's body, said once more as a short program: its thirty transfers numbered in the order in which they are
  started, its sixteen passes over a block of keys and values numbered by the slot they read, and between its opening
  and its close one list of actions. `body_eq` states that the printed body is that program.
-/
module

public import proofs.«01_k».proof.Proof.Gen.KernelIdeal
public import proofs.«01_k».proof.Proof.Gen.KernelIdeal.Launch

@[expose] public section

noncomputable section

namespace Cert.KernelIdeal.Talk

open Idealize.ShloMosaic Idealize.ShloMosaic.TcCoe
open Idealize.SL Idealize.SL.Sem
open Cert.KernelIdeal.Gen

variable {F : FTy → Type} [FloatOps F]

/-! ## The buffers the body works on -/

abbrev qM : Memref sig .tc .vmem S16x256x64 .bf16 := Memref.whole cc0_stg0_0
abbrev kvM : Memref sig .tc .vmem S2x16x256x64 .bf16 := Memref.whole cc0_stg1_0
abbrev oM : Memref sig .tc .vmem S16x256x64 .f32 := Memref.whole cc0_stg2_0
abbrev gM : Memref sig .tc .vmem S16x2x16x256x64 .bf16 := Memref.whole cc0_scratch0
abbrev aM : Memref sig .tc .vmem S16x256x64 .f32 := Memref.whole cc0_scratch1
abbrev mM : Memref sig .tc .vmem S16x256x1 .f32 := Memref.whole cc0_scratch2
abbrev lM : Memref sig .tc .vmem S16x256x1 .f32 := Memref.whole cc0_scratch3

theorem half_inb : ∀ (s : Fin 16) (p : Fin 2) (a : Fin 5), (![s.val, 0, 8 * p.val, 0, 0] : Fin 5 → ℕ) a + S1x2x8x256x64.size a ≤ S16x2x16x256x64.size a := by
  decide +kernel
theorem half_words : ∀ (s : Fin 16) (p : Fin 2),
    (Rect.unit (s := S16x2x16x256x64) ![s.val, 0, 8 * p.val, 0, 0] S1x2x8x256x64.size (half_inb s p)).WholeWords (EltTy.packing .bf16) := by
  decide +kernel
theorem kvHalf_inb : ∀ (p : Fin 2) (a : Fin 4), (![0, 8 * p.val, 0, 0] : Fin 4 → ℕ) a + S2x8x256x64.size a ≤ S2x16x256x64.size a := by
  decide +kernel
theorem kvHalf_words : ∀ (p : Fin 2),
    (Rect.unit (s := S2x16x256x64) ![0, 8 * p.val, 0, 0] S2x8x256x64.size (kvHalf_inb p)).WholeWords (EltTy.packing .bf16) := by
  decide +kernel

/-- Half `p` (eight of the sixteen heads) of slot `s` of the gathered keys and values. -/
abbrev half (s : Fin 16) (p : Fin 2) : Memref sig .tc .vmem S2x8x256x64 .bf16 :=
  (gM.slice (Rect.unit (s := S16x2x16x256x64) ![s.val, 0, 8 * p.val, 0, 0] S1x2x8x256x64.size (half_inb s p)) (fun _ => rfl)).squeeze S2x8x256x64
    squeezes_S1x2x8x256x64_S2x8x256x64
/-- Half `p` of the device's own keys and values. -/
abbrev kvHalf (p : Fin 2) : Memref sig .tc .vmem S2x8x256x64 .bf16 :=
  kvM.slice (Rect.unit (s := S2x16x256x64) ![0, 8 * p.val, 0, 0] S2x8x256x64.size (kvHalf_inb p)) (fun _ => rfl)

theorem half_wx (s : Fin 16) (p : Fin 2) : (half s p).view.WordExact :=
  ((Memref.isWhole_whole cc0_scratch0).wordExact_slice rfl _ (half_words s p)).reshape _ _
theorem kvHalf_wx (p : Fin 2) : (kvHalf p).view.WordExact := (Memref.isWhole_whole cc0_stg1_0).wordExact_slice rfl _ (kvHalf_words p)

/-! ## The transfers, in the order in which they are started -/

/-- A transfer's number. The first eight read the device's own block, the others a slot. -/
abbrev T : Type := Fin 30

/-- The half that transfer `t` moves. -/
def part : T → Fin 2 := ![0, 0, 0, 0, 1, 1, 1, 1, 0, 0, 0, 1, 1, 1, 0, 0, 1, 1, 0, 0, 1, 1, 0, 1, 0, 1, 0, 1, 0, 1]
/-- The slot it reads; slot 0 stands for the device's own block. -/
def srcS : T → Fin 16 := ![0, 0, 0, 0, 0, 0, 0, 0, 12, 12, 12, 12, 12, 12, 4, 4, 4, 4, 8, 8, 8, 8, 3, 3, 7, 7, 9, 9, 13, 13]
/-- The slot it writes on the receiving device. -/
def dstS : T → Fin 16 := ![12, 4, 3, 1, 12, 4, 3, 1, 8, 15, 13, 8, 15, 13, 7, 5, 7, 5, 11, 9, 11, 9, 2, 2, 6, 6, 10, 10, 14, 14]
/-- Its direction: 0 up four, 1 down four, 2 to the next of the group of four, 3 to the one before. -/
def dir : T → Fin 4 := ![0, 1, 2, 3, 0, 1, 2, 3, 0, 2, 3, 0, 2, 3, 2, 3, 2, 3, 2, 3, 2, 3, 2, 2, 2, 2, 3, 3, 3, 3]
/-- The semaphore the sender waits on, -/
def sendS : T → DmaSem sig := ![3, 7, 15, 39, 4, 8, 16, 40, 5, 21, 45, 6, 22, 46, 17, 41, 18, 42, 19, 43, 20, 44, 23, 24, 25, 26, 47, 48, 49, 50]
/-- and the one the receiver waits on. -/
def recvS : T → DmaSem sig := ![9, 13, 27, 51, 10, 14, 28, 52, 11, 33, 57, 12, 34, 58, 29, 53, 30, 54, 31, 55, 32, 56, 35, 36, 37, 38, 59, 60, 61, 62]

/-- Half `p` of slot `s`, slot 0 standing for the device's own block, -/
def pieceM : Bool → Fin 16 → Fin 2 → Memref sig .tc .vmem S2x8x256x64 .bf16
  | true, _, p => kvHalf p
  | false, s, p => half s p
theorem pieceM_wx : ∀ (b : Bool) (s : Fin 16) (p : Fin 2), (pieceM b s p).view.WordExact
  | true, _, p => kvHalf_wx p
  | false, s, p => half_wx s p
/-- whether `s` is slot 0, -/
def isOwn (s : Fin 16) : Bool := Nat.beq s.val 0
abbrev pc (s : Fin 16) (p : Fin 2) : Memref sig .tc .vmem S2x8x256x64 .bf16 := pieceM (isOwn s) s p
/-- and what transfer `t` reads. -/
abbrev srcM (t : T) : Memref sig .tc .vmem S2x8x256x64 .bf16 := pc (srcS t) (part t)
/-- What it writes. -/
abbrev dstM (t : T) : Memref sig .tc .vmem S2x8x256x64 .bf16 := half (dstS t) (part t)

theorem srcM_wx (t : T) : (srcM t).view.WordExact := pieceM_wx _ _ _

/-! ## One pass over a block of keys and values -/

/-- The loop of a pass: the sixteen heads, one per trip. -/
abbrev heads : Scf.Loop 32 := ⟨0#32, Scalar.addi 0#32 16#32, 1#32⟩
theorem heads_ok : heads.OK := by decide
theorem heads_trips : heads.trips = 16 := by decide

/-- The head of trip `b`. -/
def hd (b : Fin heads.trips) : ℕ := (Scalar.indexCast (Scf.iv 0#32 1#32 b) : BitVec 32).toNat
theorem hd_eq : ∀ b : Fin heads.trips, hd b = b.val := by decide +kernel
theorem hd_lt (b : Fin heads.trips) : hd b < 16 := by rw [hd_eq, ← heads_trips]; exact b.isLt

theorem inb3 (b : Fin heads.trips) : ∀ a, (![hd b, 0, 0] : Fin 3 → ℕ) a + S1x256x64.size a ≤ S16x256x64.size a := by
  revert b; decide +kernel
theorem inb1 (b : Fin heads.trips) : ∀ a, (![hd b, 0, 0] : Fin 3 → ℕ) a + S1x256x1.size a ≤ S16x256x1.size a := by
  revert b; decide +kernel
theorem inb5 (s : Fin 16) (w : Fin 2) (b : Fin heads.trips) :
    ∀ a, (![s.val, w.val, hd b, 0, 0] : Fin 5 → ℕ) a + S1x1x1x256x64.size a ≤ S16x2x16x256x64.size a := by
  revert s w b; decide +kernel

abbrev R3 (b : Fin heads.trips) : Rect S16x256x64 := Rect.unit (s := S16x256x64) ![hd b, 0, 0] S1x256x64.size (inb3 b)
abbrev R1 (b : Fin heads.trips) : Rect S16x256x1 := Rect.unit (s := S16x256x1) ![hd b, 0, 0] S1x256x1.size (inb1 b)
abbrev R5 (s : Fin 16) (w : Fin 2) (b : Fin heads.trips) : Rect S16x2x16x256x64 :=
  Rect.unit (s := S16x2x16x256x64) ![s.val, w.val, hd b, 0, 0] S1x1x1x256x64.size (inb5 s w b)

section Pure

/-- A head's scores against a block: its queries times the block's keys, from zero. -/
def scores (q : Vec F S1x256x64 .bf16) (k : Vec F S1x1x1x256x64 .bf16) : FVec F S256x256 .f32 :=
  matmul dot_S256x64_S256x64_S256x256_1_1_0_0_n_n none (shapeCast S256x64 q shapeCasts_S1x256x64_S256x64)
    (shapeCast S256x64 k shapeCasts_S1x1x1x256x64_S256x64) (constant S256x256 .f32 0x00000000#32)
/-- The largest score of each row. -/
def rowMax (S : FVec F S256x256 .f32) : FVec F S256x1 .f32 :=
  shapeCast S256x1 (multiReduction .maximumf [1] S256 S 0xFF800000#32 reduces_S256x256_S256 (.inl rfl) rfl) shapeCasts_S256_S256x1
/-- The sum of each row. -/
def rowSum (P : FVec F S256x256 .f32) : FVec F S256x1 .f32 :=
  shapeCast S256x1 (multiReduction .add [1] S256 P 0x00000000#32 reduces_S256x256_S256 (.inl rfl) rfl) shapeCasts_S256_S256x1
/-- The exponentials of the scores less the row's offset. -/
def expAt (S : FVec F S256x256 .f32) (m : FVec F S256x1 .f32) : FVec F S256x256 .f32 :=
  exp (subf S (broadcastTo S256x256 m broadcasts_S256x1_S256x256))
/-- Weights times the block's values, from zero. -/
def weigh (P : FVec F S256x256 .f32) (v : Vec F S1x1x1x256x64 .bf16) : FVec F S256x64 .f32 :=
  matmul dot_S256x256_S256x64_S256x64_1_0_0_1_n_n none (truncf .bf16 P bitsLt_bf16_f32)
    (shapeCast S256x64 v shapeCasts_S1x1x1x256x64_S256x64) (constant S256x64 .f32 0x00000000#32)

/-- What the first pass leaves for a head: the running maximum, the running sum, the running weighted values. -/
def firstM (q : Vec F S1x256x64 .bf16) (k : Vec F S1x1x1x256x64 .bf16) : FVec F S1x256x1 .f32 :=
  shapeCast S1x256x1 (rowMax (scores q k)) shapeCasts_S256x1_S1x256x1
def firstL (q : Vec F S1x256x64 .bf16) (k : Vec F S1x1x1x256x64 .bf16) : FVec F S1x256x1 .f32 :=
  shapeCast S1x256x1 (rowSum (expAt (scores q k) (rowMax (scores q k)))) shapeCasts_S256x1_S1x256x1
def firstA (q : Vec F S1x256x64 .bf16) (k v : Vec F S1x1x1x256x64 .bf16) : FVec F S1x256x64 .f32 :=
  shapeCast S1x256x64 (weigh (expAt (scores q k) (rowMax (scores q k))) v) shapeCasts_S256x64_S1x256x64

/-- A later pass: the new running maximum, -/
def newMax (q : Vec F S1x256x64 .bf16) (k : Vec F S1x1x1x256x64 .bf16) (m : Vec F S1x256x1 .f32) : FVec F S256x1 .f32 :=
  maximumf (shapeCast S256x1 m shapeCasts_S1x256x1_S256x1) (rowMax (scores q k))
/-- the factor by which what was gathered so far shrinks, -/
def shrink (q : Vec F S1x256x64 .bf16) (k : Vec F S1x1x1x256x64 .bf16) (m : Vec F S1x256x1 .f32) : FVec F S256x1 .f32 :=
  exp (subf (shapeCast S256x1 m shapeCasts_S1x256x1_S256x1) (newMax q k m))
/-- and what the pass leaves for a head. -/
def nextM (q : Vec F S1x256x64 .bf16) (k : Vec F S1x1x1x256x64 .bf16) (m : Vec F S1x256x1 .f32) : FVec F S1x256x1 .f32 :=
  shapeCast S1x256x1 (newMax q k m) shapeCasts_S256x1_S1x256x1
def nextL (q : Vec F S1x256x64 .bf16) (k : Vec F S1x1x1x256x64 .bf16) (m l : Vec F S1x256x1 .f32) : FVec F S1x256x1 .f32 :=
  shapeCast S1x256x1 (addf (mulf (shapeCast S256x1 l shapeCasts_S1x256x1_S256x1) (shrink q k m)) (rowSum (expAt (scores q k) (newMax q k m))))
    shapeCasts_S256x1_S1x256x1
def nextA (q : Vec F S1x256x64 .bf16) (k v : Vec F S1x1x1x256x64 .bf16) (m : Vec F S1x256x1 .f32) (a : Vec F S1x256x64 .f32) : FVec F S1x256x64 .f32 :=
  shapeCast S1x256x64 (addf (mulf (shapeCast S256x64 a shapeCasts_S1x256x64_S256x64) (broadcastTo S256x64 (shrink q k m) broadcasts_S256x1_S256x64))
    (weigh (expAt (scores q k) (newMax q k m)) v)) shapeCasts_S256x64_S1x256x64

/-- A head's result: the weighted values over the sum. -/
def quot (a : Vec F S1x256x64 .f32) (l : Vec F S1x256x1 .f32) : FVec F S1x256x64 .f32 :=
  shapeCast S1x256x64 (divf (shapeCast S256x64 a shapeCasts_S1x256x64_S256x64)
    (broadcastTo S256x64 (shapeCast S256x1 l shapeCasts_S1x256x1_S256x1) broadcasts_S256x1_S256x64)) shapeCasts_S256x64_S1x256x64

end Pure

/-- The program's effects. -/
abbrev P (F : FTy → Type) : Type → Type 1 := Prog (TpuEff nD τ sig (Elt F) Λ₀ .tc)

abbrev ld3 (M : Memref sig .tc .vmem S16x256x64 .bf16) (b : Fin heads.trips) : P F (Vec F S1x256x64 .bf16) :=
  Prog.lift (.load M (R3 b).toLoadRect (View.loadsAt_vmem h_S1x256x64))
abbrev ld3f (M : Memref sig .tc .vmem S16x256x64 .f32) (b : Fin heads.trips) : P F (Vec F S1x256x64 .f32) :=
  Prog.lift (.load M (R3 b).toLoadRect (View.loadsAt_vmem h_S1x256x64))
abbrev ld1 (M : Memref sig .tc .vmem S16x256x1 .f32) (b : Fin heads.trips) : P F (Vec F S1x256x1 .f32) :=
  Prog.lift (.load M (R1 b).toLoadRect (View.loadsAt_vmem h_S1x256x1))
abbrev ld5 (s : Fin 16) (w : Fin 2) (b : Fin heads.trips) : P F (Vec F S1x1x1x256x64 .bf16) :=
  Prog.lift (.load gM (R5 s w b).toLoadRect (View.loadsAt_vmem h_S1x1x1x256x64))
abbrev st3 (M : Memref sig .tc .vmem S16x256x64 .f32) (b : Fin heads.trips) (v : FVec F S1x256x64 .f32) : P F PUnit :=
  Prog.lift (.store M (R3 b) v Finset.univ (View.stores_vmem_bits_univ h_S1x256x64 rfl) (.inl rfl))
abbrev st1 (M : Memref sig .tc .vmem S16x256x1 .f32) (b : Fin heads.trips) (v : FVec F S1x256x1 .f32) : P F PUnit :=
  Prog.lift (.store M (R1 b) v Finset.univ (View.stores_vmem_bits_univ h_S1x256x1 rfl) (.inl rfl))

/-- One trip of the first pass, over slot 0. -/
def firstTrip (b : Fin heads.trips) (_ : PUnit.{1}) : P F PUnit.{1} := do
  let q ← ld3 qM b
  let k ← ld5 0 0 b
  let v ← ld5 0 1 b
  let _ ← ld1 lM b
  st1 lM b (firstL q k)
  let _ ← ld3f aM b
  st3 aM b (firstA q k v)
  let _ ← ld1 mM b
  st1 mM b (firstM q k)
  pure ⟨⟩
/-- One trip of a later pass, over slot `s`. -/
def nextTrip (s : Fin 16) (b : Fin heads.trips) (_ : PUnit.{1}) : P F PUnit.{1} := do
  let q ← ld3 qM b
  let k ← ld5 s 0 b
  let v ← ld5 s 1 b
  let m ← ld1 mM b
  let l ← ld1 lM b
  let _ ← ld1 lM b
  st1 lM b (nextL q k m l)
  let a ← ld3f aM b
  let _ ← ld3f aM b
  st3 aM b (nextA q k v m a)
  let _ ← ld1 mM b
  st1 mM b (nextM q k m)
  pure ⟨⟩
def firstPass : P F PUnit.{1} := Scf.Loop.for heads heads_ok ⟨⟩ firstTrip
def nextPass (s : Fin 16) : P F PUnit.{1} := Scf.Loop.for heads heads_ok ⟨⟩ (nextTrip s)

/-! ## The actions, and the body -/

/-- What the body does between its opening and its close: start a transfer, wait for one to arrive, or make a pass. -/
inductive Act | start (t : T) | recv (t : T) | pass (s : Fin 16)

/-- A transfer of `src` to `dst` on device `e`, crediting `a` here once read and `b` there once landed. -/
abbrev send (src dst : Memref sig .tc .vmem S2x8x256x64 .bf16) (hs : src.view.WordExact) (hd : dst.view.WordExact) (e : Dev nD) (a b : DmaSem sig) :
    P F PUnit.{1} :=
  Prog.lift (.enqueueDma src (.remote (Dev.tc e) dst (.dma a)) (.dma b) hs hd ⟨⟨rfl, Or.inl rfl⟩, trivial⟩)

/-- An action's program, the transfers' targets given. -/
def Act.run (e : T → Dev nD) : Act → P F PUnit.{1}
  | .start t => send (srcM t) (dstM t) (srcM_wx t) (half_wx _ _) (e t) (sendS t) (recvS t)
  | .recv t => Prog.lift (.waitDma2 (recvS t) (srcM t) (dstM t) (srcM_wx t) (half_wx _ _))
  | .pass s => nextPass s

/-- A list of actions, one after the other, then the rest. -/
def runActs {α : Type} (e : T → Dev nD) : List Act → P F α → P F α
  | [], k => k
  | a :: l, k => a.run e >>= fun _ => runActs e l k

/-- The wait for transfer `t` to have been sent. -/
abbrev sent (t : T) : P F PUnit.{1} := Prog.lift (.waitDma2 (sendS t) (dstM t) (srcM t) (half_wx _ _) (srcM_wx t))
def runSent {α : Type} : List T → P F α → P F α
  | [], k => k
  | t :: l, k => sent t >>= fun _ => runSent l k

/-- The actions in the body's order, after the first pass. -/
def acts : List Act :=
  [.recv 0, .start 8, .start 9, .start 10, .recv 4, .start 11, .start 12, .start 13, .pass 12,
   .recv 1, .start 14, .start 15, .recv 5, .start 16, .start 17, .pass 4,
   .recv 8, .start 18, .start 19, .recv 11, .start 20, .start 21, .pass 8,
   .recv 2, .start 22, .recv 6, .start 23, .pass 3,
   .recv 3, .recv 7, .pass 1,
   .recv 14, .start 24, .recv 16, .start 25, .pass 7,
   .recv 15, .recv 17, .pass 5,
   .recv 18, .recv 20, .pass 11,
   .recv 19, .start 26, .recv 21, .start 27, .pass 9,
   .recv 9, .recv 12, .pass 15,
   .recv 10, .start 28, .recv 13, .start 29, .pass 13,
   .recv 22, .recv 23, .pass 2,
   .recv 24, .recv 25, .pass 6,
   .recv 26, .recv 27, .pass 10,
   .recv 28, .recv 29, .pass 14]

/-- The transfers in the order in which the close waits for them to have been sent. -/
def sents : List T :=
  [0, 4, 8, 11, 1, 5, 2, 6, 14, 16, 18, 20, 9, 12, 22, 23, 24, 25, 3, 7, 15, 17, 19, 21, 10, 13, 26, 27, 28, 29]

/-- Head `b`'s result, stored into the output. -/
def outTrip {α : Type} (b : Fin 16) (k : P F α) : P F α := do
  let a ← ld3f aM (b.cast heads_trips.symm)
  let l ← ld1 lM (b.cast heads_trips.symm)
  let _ ← ld3f oM (b.cast heads_trips.symm)
  st3 oM (b.cast heads_trips.symm) (quot a l)
  k
def runOut {α : Type} : List (Fin 16) → P F α → P F α
  | [], k => k
  | b :: l, k => outTrip b (runOut l k)

/-- The barrier semaphore. -/
abbrev barS : Sem sig := (SemArray.scalar (sig.barrier 0 rfl) : Sems sig S_).sem

theorem g0_packed : (Rect.unit (s := S16x2x16x256x64) ![0, 0, 0, 0, 0] S1x2x16x256x64.size inb_S16x2x16x256x64_S1x2x16x256x64_0_0_0_0_0).PackedRows (EltTy.packing .bf16) :=
  packedbf16_S16x2x16x256x64_S1x2x16x256x64_0_0_0_0_0

/-- The device's own block, copied into slot 0. -/
def ownCopy {α : Type} (k : P F α) : P F α := do
  let x : Vec F S2x16x256x64 .bf16 ← Prog.lift (.load kvM (Rect.unit (s := S2x16x256x64) ![0, 0, 0, 0] S2x16x256x64.size inb_S2x16x256x64_S2x16x256x64_0_0_0_0).toLoadRect (View.loadsAt_vmem h_S2x16x256x64))
  let _ : Vec F S1x2x16x256x64 .bf16 ← Prog.lift (.load gM (Rect.unit (s := S16x2x16x256x64) ![0, 0, 0, 0, 0] S1x2x16x256x64.size inb_S16x2x16x256x64_S1x2x16x256x64_0_0_0_0_0).toLoadRect (View.loadsAt_vmem h_S1x2x16x256x64))
  Prog.lift (.store gM (Rect.unit (s := S16x2x16x256x64) ![0, 0, 0, 0, 0] S1x2x16x256x64.size inb_S16x2x16x256x64_S1x2x16x256x64_0_0_0_0_0)
    (shapeCast S1x2x16x256x64 (shapeCast S2x16x256x64 x shapeCasts_S2x16x256x64_S2x16x256x64) shapeCasts_S2x16x256x64_S1x2x16x256x64) Finset.univ
    (View.stores_vmem h_S1x2x16x256x64 ((Memref.isWhole_whole cc0_scratch0).storeExact_slice rfl _ packedbf16_S16x2x16x256x64_S1x2x16x256x64_0_0_0_0_0) (fun _ => rfl)) (.inl rfl))
  k

/-- The body's opening, from its device: the four signals `n`, and the wait for four. -/
def opening {α : Type} (n : Fin 4 → Dev nD) (k : P F α) : P F α := do
  semSignalWord (n 0) barS 1#32
  semSignalWord (n 1) barS 1#32
  semSignalWord (n 2) barS 1#32
  semSignalWord (n 3) barS 1#32
  semWaitWord barS 4#32
  k

/-- The whole, the neighbours `n` and the targets `e` given. -/
def whole (n : Fin 4 → Dev nD) (e : T → Dev nD) : P F PUnit.{1} :=
  opening n (runActs e [.start 0, .start 1, .start 2, .start 3, .start 4, .start 5, .start 6, .start 7]
    (ownCopy (firstPass >>= fun _ => runActs e acts
      (runOut [0, 1, 2, 3, 4, 5, 6, 7, 8, 9, 10, 11, 12, 13, 14, 15] (runSent sents (pure ⟨⟩))))))

/-- The neighbours the printed body signals, by the device words it computes, -/
def nb (d : Dev nD) : Fin 4 → Dev nD :=
  ![⟨k0_dev1 d, k0_dev1_lt d⟩, ⟨k0_dev2 d, k0_dev2_lt d⟩, ⟨k0_dev3 d, k0_dev3_lt d⟩, ⟨k0_dev4 d, k0_dev4_lt d⟩]
/-- and the targets of its transfers. -/
def tg (d : Dev nD) : T → Dev nD :=
  ![⟨k0_dev5 d, k0_dev5_lt d⟩, ⟨k0_dev6 d, k0_dev6_lt d⟩, ⟨k0_dev7 d, k0_dev7_lt d⟩, ⟨k0_dev8 d, k0_dev8_lt d⟩, ⟨k0_dev9 d, k0_dev9_lt d⟩,
    ⟨k0_dev10 d, k0_dev10_lt d⟩, ⟨k0_dev11 d, k0_dev11_lt d⟩, ⟨k0_dev12 d, k0_dev12_lt d⟩, ⟨k0_dev13 d, k0_dev13_lt d⟩, ⟨k0_dev14 d, k0_dev14_lt d⟩,
    ⟨k0_dev15 d, k0_dev15_lt d⟩, ⟨k0_dev16 d, k0_dev16_lt d⟩, ⟨k0_dev17 d, k0_dev17_lt d⟩, ⟨k0_dev18 d, k0_dev18_lt d⟩, ⟨k0_dev19 d, k0_dev19_lt d⟩,
    ⟨k0_dev20 d, k0_dev20_lt d⟩, ⟨k0_dev21 d, k0_dev21_lt d⟩, ⟨k0_dev22 d, k0_dev22_lt d⟩, ⟨k0_dev23 d, k0_dev23_lt d⟩, ⟨k0_dev24 d, k0_dev24_lt d⟩,
    ⟨k0_dev25 d, k0_dev25_lt d⟩, ⟨k0_dev26 d, k0_dev26_lt d⟩, ⟨k0_dev27 d, k0_dev27_lt d⟩, ⟨k0_dev28 d, k0_dev28_lt d⟩, ⟨k0_dev29 d, k0_dev29_lt d⟩,
    ⟨k0_dev30 d, k0_dev30_lt d⟩, ⟨k0_dev31 d, k0_dev31_lt d⟩, ⟨k0_dev32 d, k0_dev32_lt d⟩, ⟨k0_dev33 d, k0_dev33_lt d⟩, ⟨k0_dev34 d, k0_dev34_lt d⟩]

/-- The words the printed body computes for its neighbours in the group of four; nothing but words depends on them. -/
def word (d : Dev nD) (k : BitVec 32) : BitVec 32 :=
  Scalar.addi (Scalar.subi (Scalar.remsi (Scalar.divsi (Dev.word d) 1#32) 16#32) (Scalar.remsi (Scalar.remsi (Scalar.divsi (Dev.word d) 1#32) 16#32) 4#32))
    (Scalar.remsi (Scalar.addi (Scalar.remsi (Scalar.remsi (Scalar.divsi (Dev.word d) 1#32) 16#32) 4#32) k) 4#32)

/-- The body as the call runs it. -/
abbrev body : P F PUnit.{1} :=
  cc0__body qM (Memref.isWhole_whole _) kvM (Memref.isWhole_whole _) oM (Memref.isWhole_whole _) gM (Memref.isWhole_whole _) aM (Memref.isWhole_whole _)
    mM (Memref.isWhole_whole _) lM (Memref.isWhole_whole _) cc0_scratch4 cc0_scratch5 cc0_scratch6 cc0_scratch7 cc0_scratch8 cc0_scratch9

theorem runActs_bind {α β : Type} (e : T → Dev nD) (l : List Act) (p : P F α) (k : α → P F β) :
    (runActs e l p >>= k) = runActs e l (p >>= k) := by
  induction l with
  | nil => rfl
  | cons a l ih => exact (Prog.bind_assoc ..).trans (congrArg _ (funext fun _ => ih))
theorem runActs_append {α : Type} (e : T → Dev nD) (l l' : List Act) (p : P F α) :
    runActs e l (runActs e l' p) = runActs e (l ++ l') p := by
  induction l with
  | nil => rfl
  | cons a l ih => exact congrArg _ (funext fun _ => ih)

set_option maxRecDepth 65536 in
/-- All of the printed body but its last wait, as the pieces it is cut into follow one another. -/
theorem part75_eq : k0_part75 (F := F) qM (Memref.isWhole_whole _) kvM (Memref.isWhole_whole _) oM (Memref.isWhole_whole _) gM (Memref.isWhole_whole _) aM
      (Memref.isWhole_whole _) mM (Memref.isWhole_whole _) lM (Memref.isWhole_whole _) cc0_scratch4 cc0_scratch5 cc0_scratch6 cc0_scratch7 cc0_scratch8
      cc0_scratch9 =
    (.op .deviceId fun d => opening (nb d) (runActs (tg d) [.start 0, .start 1, .start 2, .start 3, .start 4, .start 5, .start 6]
      (runActs (tg d) [.start 7] (ownCopy (firstPass >>= fun _ => pure PUnit.unit)) >>= fun _ =>
       runActs (tg d) [.recv 0, .start 8, .start 9, .start 10, .recv 4, .start 11]
       (runActs (tg d) [.start 12, .start 13, .pass 12] (pure PUnit.unit) >>= fun _ =>
       runActs (tg d) [.recv 1, .start 14, .start 15, .recv 5, .start 16]
       (runActs (tg d) [.start 17, .pass 4] (pure PUnit.unit) >>= fun _ =>
       runActs (tg d) [.recv 8, .start 18, .start 19, .recv 11, .start 20]
       (runActs (tg d) [.start 21, .pass 8, .recv 2] (pure PUnit.unit) >>= fun _ =>
       runActs (tg d) [.start 22, .recv 6]
       (runActs (tg d) [.start 23, .pass 3] (pure PUnit.unit) >>= fun _ =>
       (runActs (tg d) [.recv 3, .recv 7, .pass 1] (pure (Scalar.muli (word d 1#32) 1#32)) >>= fun _ =>
       runActs (tg d) [.recv 14, .start 24, .recv 16]
       (runActs (tg d) [.start 25, .pass 7, .recv 15] (pure PUnit.unit) >>= fun _ =>
       (runActs (tg d) [.recv 17, .pass 5] (pure PUnit.unit) >>= fun _ =>
       (runActs (tg d) [.recv 18, .recv 20, .pass 11] (pure PUnit.unit) >>= fun _ =>
       runActs (tg d) [.recv 19, .start 26, .recv 21]
       (runActs (tg d) [.start 27, .pass 9, .recv 9] (pure PUnit.unit) >>= fun _ =>
       (runActs (tg d) [.recv 12, .pass 15] (pure PUnit.unit) >>= fun _ =>
       runActs (tg d) [.recv 10, .start 28, .recv 13]
       (runActs (tg d) [.start 29, .pass 13, .recv 22] (pure PUnit.unit) >>= fun _ =>
       (runActs (tg d) [.recv 23, .pass 2] (pure PUnit.unit) >>= fun _ =>
       (runActs (tg d) [.recv 24, .recv 25, .pass 6] (pure PUnit.unit) >>= fun _ =>
       (runActs (tg d) [.recv 26, .recv 27, .pass 10] (pure PUnit.unit) >>= fun _ =>
       runActs (tg d) [.recv 28]
       (runActs (tg d) [.recv 29, .pass 14] (outTrip 0 (outTrip 1 (ld3f aM ((2 : Fin 16).cast heads_trips.symm) >>= fun a => pure (shapeCast S256x64 a shapeCasts_S1x256x64_S256x64)))) >>= fun a => do
          let l ← ld1 lM ((2 : Fin 16).cast heads_trips.symm)
          let _ ← ld3f oM ((2 : Fin 16).cast heads_trips.symm)
          st3 oM ((2 : Fin 16).cast heads_trips.symm) (shapeCast S1x256x64 (divf a
             (broadcastTo S256x64 (shapeCast S256x1 l shapeCasts_S1x256x1_S256x1) broadcasts_S256x1_S256x64)) shapeCasts_S256x64_S1x256x64)
          runOut [3, 4, 5, 6, 7, 8, 9, 10, 11, 12, 13, 14, 15] (runSent sents.dropLast (pure ⟨⟩)))))))))))))))))))) := rfl

theorem outTrip_bind {α β : Type} (b : Fin 16) (p : P F α) (k : α → P F β) : (outTrip b p >>= k) = outTrip b (p >>= k) := rfl
theorem runOut_bind {β : Type} (l : List (Fin 16)) (p : P F PUnit.{1}) (k : PUnit.{1} → P F β) : (runOut l p >>= k) = runOut l (p >>= k) := by
  induction l with
  | nil => rfl
  | cons b l ih => exact (outTrip_bind ..).trans (congrArg _ ih)
theorem runSent_bind {β : Type} (l : List T) (p : P F PUnit.{1}) (k : PUnit.{1} → P F β) : (runSent l p >>= k) = runSent l (p >>= k) := by
  induction l with
  | nil => rfl
  | cons t l ih => exact (Prog.bind_assoc ..).trans (congrArg _ (funext fun _ => ih))
theorem opening_bind {β : Type} (n : Fin 4 → Dev nD) (p : P F PUnit.{1}) (k : PUnit.{1} → P F β) : (opening n p >>= k) = opening n (p >>= k) := rfl
theorem ownCopy_bind {β : Type} (p : P F PUnit.{1}) (k : PUnit.{1} → P F β) : (ownCopy p >>= k) = ownCopy (p >>= k) := rfl

set_option maxRecDepth 65536 in
/-- The printed body is `whole`. -/
theorem body_eq : (body : P F PUnit.{1}) = (.op .deviceId fun d => whole (nb d) (tg d)) := by
  refine (show (body : P F PUnit.{1}) = (_ >>= fun _ => sent 29 >>= fun _ => pure PUnit.unit) from congrArg (· >>= fun _ => sent 29 >>= fun _ => pure PUnit.unit) part75_eq).trans ?_
  refine (Prog.bind_op ..).trans (congrArg _ (funext fun d => ?_))
  simp only [opening_bind, ownCopy_bind, outTrip_bind, runActs_bind, Prog.bind_assoc, Prog.bind_ret, Prog.pure_eq_ret, runOut_bind, runSent_bind, runActs_append]
  rfl

end Cert.KernelIdeal.Talk

end
-- ==== Proof.Geometry.lean ====
/-
  Where things lie: the halves of the gathered array and of a device's own block as sets of positions, who sends to whom,
  and what a device's gathered array holds once everything has arrived.
-/
module

public import proofs.«01_k».proof.Proof.Shape

@[expose] public section

noncomputable section

namespace Cert.KernelIdeal.Talk

open Idealize.ShloMosaic Idealize.ShloMosaic.TcCoe
open Idealize.SL Idealize.SL.Sem
open Cert.KernelIdeal.Gen

variable {F : FTy → Type} [FloatOps F]

/-! ## Who sends to whom -/

/-- The device that `c` sends to in direction `d`. -/
def toward : Fin 4 → Dev nD → Dev nD
  | 0, c => ⟨(c.val + 4) % 16, Nat.mod_lt _ (by decide)⟩
  | 1, c => ⟨(c.val + 12) % 16, Nat.mod_lt _ (by decide)⟩
  | 2, c => ⟨(c.val - c.val % 4 + (c.val + 1) % 4) % 16, Nat.mod_lt _ (by decide)⟩
  | 3, c => ⟨(c.val - c.val % 4 + (c.val + 3) % 4) % 16, Nat.mod_lt _ (by decide)⟩
/-- The direction that leads back. -/
def back : Fin 4 → Fin 4 := ![1, 0, 3, 2]

theorem back_back : ∀ d, back (back d) = d := by decide
theorem to_back : ∀ d c, toward (back d) (toward d c) = c := by decide +kernel
theorem back_to : ∀ d c, toward d (toward (back d) c) = c := by decide +kernel

theorem tg_eq : ∀ d t, tg d t = toward (dir t) d := by decide +kernel
theorem nb_eq : ∀ d, nb d = ![toward 2 d, toward 3 d, toward 0 d, toward 1 d] := by decide +kernel

/-- The device whose block slot `s` of device `c` is for. -/
def own (c : Dev nD) (s : Fin 16) : Dev nD :=
  ⟨((c.val / 4 + s.val / 4) % 4 * 4 + (c.val % 4 + s.val % 4) % 4) % 16, Nat.mod_lt _ (by decide)⟩
theorem own_to : ∀ (t : T) (c : Dev nD), own (toward (dir t) c) (dstS t) = own c (srcS t) := by decide +kernel
theorem own_zero : ∀ c : Dev nD, own c 0 = c := by decide +kernel

theorem isOwn_iff : ∀ s : Fin 16, isOwn s = true ↔ s = 0 := by decide
theorem dst_ne : ∀ t : T, dstS t ≠ 0 := by decide

/-! ## What the gathered array holds -/

/-- A position of the gathered array, its slot dropped. -/
def tl (i : S16x2x16x256x64.Idx) : S2x16x256x64.Idx := fun
  | 0 => i 1
  | 1 => i 2
  | 2 => i 3
  | 3 => i 4

/-- The devices' own blocks. -/
abbrev Blocks (F : FTy → Type) : Type := Dev nD → (cc0_stg1_0 : Ref sig .tc).ty.Contents (Elt F)

/-- Device `c`'s gathered array, every slot filled with the block it is for. -/
def KV (X : Blocks F) (c : Dev nD) : (cc0_scratch0 : Ref sig .tc).ty.Contents (Elt F) := fun i => X (own c (i 0)) (tl i)

/-- The contents a piece is read from. -/
def pieceV (X : Blocks F) (c : Dev nD) : (b : Bool) → (s : Fin 16) → (p : Fin 2) → Buf (Elt F) ((pieceM b s p).view.loc (c : Thread nD τ))
  | true, _, _ => X c
  | false, _, _ => KV X c

/-! ## The halves as sets of positions -/

theorem mem_half {s : Fin 16} {p : Fin 2} {i : S16x2x16x256x64.Idx} :
    i ∈ (half s p).view.set ↔ (i 0).val = s.val ∧ 8 * p.val ≤ (i 2).val ∧ (i 2).val < 8 * p.val + 8 := by
  rw [show (half s p).view.set = (Rect.unit (s := S16x2x16x256x64) ![s.val, 0, 8 * p.val, 0, 0] S1x2x8x256x64.size (half_inb s p)).set from
    (View.set_reshape _ _).trans (View.set_slice_whole _ _), Rect.mem_set_unit]
  constructor
  · intro h
    have h0 := h 0; have h2 := h 2
    have h0a : s.val ≤ (i 0).val := h0.1
    have h0b : (i 0).val < s.val + 1 := h0.2
    exact ⟨by omega, h2.1, h2.2⟩
  · rintro ⟨h0, h2, h2'⟩ a
    have i1 : (i 1).val < 2 := (i 1).isLt
    have i3 : (i 3).val < 256 := (i 3).isLt
    have i4 : (i 4).val < 64 := (i 4).isLt
    match a with
    | 0 => exact ⟨le_of_eq h0.symm, show (i 0).val < s.val + 1 by omega⟩
    | 1 => exact ⟨Nat.zero_le _, show (i 1).val < 0 + 2 by omega⟩
    | 2 => exact ⟨h2, h2'⟩
    | 3 => exact ⟨Nat.zero_le _, show (i 3).val < 0 + 256 by omega⟩
    | 4 => exact ⟨Nat.zero_le _, show (i 4).val < 0 + 64 by omega⟩

theorem mem_kvHalf {p : Fin 2} {i : S2x16x256x64.Idx} :
    i ∈ (kvHalf p).view.set ↔ 8 * p.val ≤ (i 1).val ∧ (i 1).val < 8 * p.val + 8 := by
  rw [show (kvHalf p).view.set = (Rect.unit (s := S2x16x256x64) ![0, 8 * p.val, 0, 0] S2x8x256x64.size (kvHalf_inb p)).set from
    View.set_slice_whole _ _, Rect.mem_set_unit]
  constructor
  · intro h
    have h2 := h 1
    exact ⟨h2.1, h2.2⟩
  · rintro ⟨h2, h2'⟩ a
    have i1 : (i 0).val < 2 := (i 0).isLt
    have i3 : (i 2).val < 256 := (i 2).isLt
    have i4 : (i 3).val < 64 := (i 3).isLt
    match a with
    | 0 => exact ⟨Nat.zero_le _, show (i 0).val < 0 + 2 by omega⟩
    | 1 => exact ⟨h2, h2'⟩
    | 2 => exact ⟨Nat.zero_le _, show (i 2).val < 0 + 256 by omega⟩
    | 3 => exact ⟨Nat.zero_le _, show (i 3).val < 0 + 64 by omega⟩

/-- Where an index of a half lies in the gathered array, -/
theorem half_emb (s : Fin 16) (p : Fin 2) (x : S2x8x256x64.Idx) (a : Fin 5) :
    ((half s p).view.emb x a).val = (![s.val, (x 0).val, 8 * p.val + (x 1).val, (x 2).val, (x 3).val] : Fin 5 → ℕ) a := by
  refine (congrArg (fun y : (Rect.unit (s := S16x2x16x256x64) ![s.val, 0, 8 * p.val, 0, 0] S1x2x8x256x64.size (half_inb s p)).shape.Idx =>
      ((Rect.unit (s := S16x2x16x256x64) ![s.val, 0, 8 * p.val, 0, 0] S1x2x8x256x64.size (half_inb s p)).emb y a).val)
      (Shape.reshapeEquiv_cons_one (d := S2x8x256x64.size) _ x)).trans ?_
  rw [Rect.emb_apply]
  match a with
  | 0 => rfl
  | 1 => exact show 0 + 1 * (x 0).val = (x 0).val by omega
  | 2 => exact show 8 * p.val + 1 * (x 1).val = 8 * p.val + (x 1).val by omega
  | 3 => exact show 0 + 1 * (x 2).val = (x 2).val by omega
  | 4 => exact show 0 + 1 * (x 3).val = (x 3).val by omega

/-- and where one of a half of the own block lies in the block. -/
theorem kvHalf_emb (p : Fin 2) (x : S2x8x256x64.Idx) (a : Fin 4) :
    ((kvHalf p).view.emb x a).val = (![(x 0).val, 8 * p.val + (x 1).val, (x 2).val, (x 3).val] : Fin 4 → ℕ) a := by
  rw [show (kvHalf p).view.emb x = (Rect.unit (s := S2x16x256x64) ![0, 8 * p.val, 0, 0] S2x8x256x64.size (kvHalf_inb p)).emb x from rfl, Rect.emb_apply]
  match a with
  | 0 => exact show 0 + 1 * (x 0).val = (x 0).val by omega
  | 1 => exact show 8 * p.val + 1 * (x 1).val = 8 * p.val + (x 1).val by omega
  | 2 => exact show 0 + 1 * (x 2).val = (x 2).val by omega
  | 3 => exact show 0 + 1 * (x 3).val = (x 3).val by omega

/-- The elements of a block that half `p` holds. -/
def halfOf (B : (cc0_stg1_0 : Ref sig .tc).ty.Contents (Elt F)) (p : Fin 2) : S2x8x256x64.Idx → Elt F .bf16 := fun x => B ((kvHalf p).view.emb x)

theorem tl_half_emb (s : Fin 16) (p : Fin 2) (x : S2x8x256x64.Idx) : tl ((half s p).view.emb x) = (kvHalf p).view.emb x := by
  funext a
  apply Fin.ext
  rw [kvHalf_emb]
  match a with
  | 0 => exact half_emb s p x 1
  | 1 => exact half_emb s p x 2
  | 2 => exact half_emb s p x 3
  | 3 => exact half_emb s p x 4

theorem half_emb_zero (s : Fin 16) (p : Fin 2) (x : S2x8x256x64.Idx) : (half s p).view.emb x 0 = s := Fin.ext (half_emb s p x 0)

theorem KV_half (X : Blocks F) (c : Dev nD) (s : Fin 16) (p : Fin 2) (x : S2x8x256x64.Idx) :
    KV X c ((half s p).view.emb x) = halfOf (X (own c s)) p x := by
  show X (own c ((half s p).view.emb x 0)) (tl ((half s p).view.emb x)) = _
  rw [tl_half_emb, half_emb_zero]; rfl

/-- A piece, read, is its half of the block it is for. -/
theorem read_piece (X : Blocks F) (c : Dev nD) (b : Bool) (s : Fin 16) (p : Fin 2) (hb : b = isOwn s) (x : S2x8x256x64.Idx) :
    (pieceM b s p).view.read (Elt F) (pieceV X c b s p) x = halfOf (X (own c s)) p x := by
  cases b with
  | true =>
    obtain rfl := (isOwn_iff s).mp hb.symm
    rw [own_zero]; rfl
  | false => exact KV_half X c s p x

/-- What lands is what the receiving device's slot is for. -/
theorem landed (X : Blocks F) (c : Dev nD) (t : T) (fd : (cc0_scratch0 : Ref sig .tc).ty.Contents (Elt F)) :
    ∀ i ∈ (dstM t).view.set, (dstM t).view.write (Elt F) fd ((srcM t).view.read (Elt F) (pieceV X c (isOwn (srcS t)) (srcS t) (part t))) Finset.univ i
      = KV X (toward (dir t) c) i := by
  intro i hi
  obtain ⟨x, -, rfl⟩ := Finset.mem_map.mp hi
  rw [KV_half, own_to, ← read_piece X c (isOwn (srcS t)) (srcS t) (part t) rfl x]
  exact View.write_emb_of_mem (v := (dstM t).view) _ _ (Finset.mem_univ x)

/-! ## The halves partition -/

abbrev H : Type := Fin 16 × Fin 2

/-- The half of slot `h.1`, of the gathered array, that `h` names. -/
abbrev hset (h : H) : Finset S16x2x16x256x64.Idx := (half h.1 h.2).view.set

theorem hset_disjoint : Set.PairwiseDisjoint (Set.univ : Set H) hset := by
  intro h _ h' _ hne
  refine Finset.disjoint_left.mpr fun i hi hi' => hne ?_
  obtain ⟨a, b, b'⟩ := mem_half.mp hi
  obtain ⟨a', c, c'⟩ := mem_half.mp hi'
  exact Prod.ext (Fin.ext (by omega)) (Fin.ext (by omega))
theorem hset_cover : Finset.univ.biUnion hset = Finset.univ := by
  refine Finset.eq_univ_iff_forall.mpr fun i => Finset.mem_biUnion.mpr ?_
  have h2 : (i 2).val < 16 := (i 2).isLt
  refine ⟨((i 0, ⟨(i 2).val / 8, by omega⟩) : H), Finset.mem_univ _, mem_half.mpr ⟨rfl, show 8 * ((i 2).val / 8) ≤ (i 2).val by omega, show (i 2).val < 8 * ((i 2).val / 8) + 8 by omega⟩⟩

/-- The half `p` of the own block. -/
abbrev kvset (p : Fin 2) : Finset S2x16x256x64.Idx := (kvHalf p).view.set

theorem kvset_disjoint : Set.PairwiseDisjoint (Set.univ : Set (Fin 2)) kvset := by
  intro h _ h' _ hne
  refine Finset.disjoint_left.mpr fun i hi hi' => hne ?_
  obtain ⟨b, b'⟩ := mem_kvHalf.mp hi
  obtain ⟨c, c'⟩ := mem_kvHalf.mp hi'
  exact Fin.ext (by omega)
theorem kvset_cover : Finset.univ.biUnion kvset = Finset.univ := by
  refine Finset.eq_univ_iff_forall.mpr fun i => Finset.mem_biUnion.mpr ?_
  have h2 : (i 1).val < 16 := (i 1).isLt
  refine ⟨(⟨(i 1).val / 8, by omega⟩ : Fin 2), Finset.mem_univ _, mem_kvHalf.mpr ⟨show 8 * ((i 1).val / 8) ≤ (i 1).val by omega, show (i 1).val < 8 * ((i 1).val / 8) + 8 by omega⟩⟩

end Cert.KernelIdeal.Talk

end
-- ==== Proof.Protocol.lean ====
/-
  The protocol of the exchange: the cells, what each signal and each transfer hands over, what each device owes at launch
  and the levels that order the waits.
-/
module

public import proofs.«01_k».proof.Proof.Geometry

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem Idealize.ShloMosaic.Rounds
open Cert.KernelIdeal.Gen

variable {F : FTy → Type} [FloatOps F]

/-! ## The resource algebra: the pipeline's copy of the rounds and the exchange's -/

abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ## Cells and amounts -/

abbrev barCell (c : Dev nD) : GSem nD τ sig := ((c : Thread nD τ), .reg barS)
abbrev sendCell (c : Dev nD) (t : T) : GSem nD τ sig := ((c : Thread nD τ), .dma (sendS t))
abbrev recvCell (c : Dev nD) (t : T) : GSem nD τ sig := ((c : Thread nD τ), .dma (recvS t))

/-- What a semaphore is for. -/
inductive Kd | bar | snd (t : T) | rcv (t : T) | none
deriving DecidableEq

def kindOf : SemLoc sig → Kd
  | .reg _ => .bar
  | .dma n => match (List.finRange 30).find? (fun t => sendS t == n) with
    | some t => .snd t
    | none => match (List.finRange 30).find? (fun t => recvS t == n) with
      | some t => .rcv t
      | none => .none

theorem kindOf_send : ∀ t, kindOf (.dma (sendS t)) = .snd t := by decide +kernel
theorem kindOf_recv : ∀ t, kindOf (.dma (recvS t)) = .rcv t := by decide +kernel

/-- The credit of one transfer: that of a half. -/
abbrev N : ℕ := (half 0 0).view.dmaCredit
theorem N_pos : 0 < N := View.dmaCredit_pos _ (by decide)
theorem credit_half (s : Fin 16) (p : Fin 2) : (half s p).view.dmaCredit = N := rfl
theorem credit_piece : ∀ (b : Bool) (s : Fin 16) (p : Fin 2), (pieceM b s p).view.dmaCredit = N
  | true, _, _ => by
    show (cc0_stg1_0 : Ref sig .tc).dmaCredit S2x8x256x64 .bf16 = (cc0_scratch0 : Ref sig .tc).dmaCredit S2x8x256x64 .bf16
    decide +kernel
  | false, _, _ => rfl

/-! ## Pieces -/

/-- Half `p` of slot `s` of device `c`'s gathered array, at contents `f`. -/
abbrev hPts (c : Dev nD) (s : Fin 16) (p : Fin 2) (f : (cc0_scratch0 : Ref sig .tc).ty.Contents (Elt F)) : sProp 𝕄 :=
  (half s p).view.loc (c : Thread nD τ) ↦[(half s p).view.set]{fullShare} f
/-- The same at contents not chosen. -/
abbrev hAny (c : Dev nD) (s : Fin 16) (p : Fin 2) : sProp 𝕄 := iprop(∃ f : (cc0_scratch0 : Ref sig .tc).ty.Contents (Elt F), hPts c s p f)

def pieceP (X : Blocks F) (c : Dev nD) (q : PosShare TreeShare) (b : Bool) (s : Fin 16) (p : Fin 2) : sProp 𝕄 :=
  (pieceM b s p).view.loc (c : Thread nD τ) ↦[(pieceM b s p).view.set]{q} pieceV X c b s p
/-- Piece `h` at share `q`, at what it is for; slot 0's pieces are the device's own block's. -/
abbrev pP (X : Blocks F) (c : Dev nD) (q : PosShare TreeShare) (h : H) : sProp 𝕄 := pieceP X c q (isOwn h.1) h.1 h.2

theorem pieceP_false (X : Blocks F) (c : Dev nD) (q : PosShare TreeShare) (s : Fin 16) (p : Fin 2) {b : Bool} (hb : b = false) :
    (pieceP X c q b s p : sProp 𝕄) = ((half s p).view.loc (c : Thread nD τ) ↦[(half s p).view.set]{q} KV X c) := by subst hb; rfl
theorem pieceP_true (X : Blocks F) (c : Dev nD) (q : PosShare TreeShare) (s : Fin 16) (p : Fin 2) {b : Bool} (hb : b = true) :
    (pieceP X c q b s p : sProp 𝕄) = ((kvHalf p).view.loc (c : Thread nD τ) ↦[(kvHalf p).view.set]{q} X c) := by subst hb; rfl

/-- The four shares a piece's transfers read it at, one per direction, and the share kept. -/
abbrev tokS (d : Fin 4) : PosShare TreeShare := Transfers.shareTok fullShare 4 d
abbrev keepS : PosShare TreeShare := Transfers.shareDrop fullShare 4

theorem pieceP_split (X : Blocks F) (c : Dev nD) (b : Bool) (s : Fin 16) (p : Fin 2) :
    (pieceP X c fullShare b s p : sProp 𝕄) ⊢ iprop(pieceP X c keepS b s p ∗ bigSep Finset.univ fun d => pieceP X c (tokS d) b s p) := by
  unfold pieceP; exact Transfers.pointsTo_toks_split fullShare 4
theorem pieceP_join (X : Blocks F) (c : Dev nD) (b : Bool) (s : Fin 16) (p : Fin 2) :
    iprop(pieceP X c keepS b s p ∗ bigSep Finset.univ fun d => pieceP X c (tokS d) b s p) ⊢ (pieceP X c fullShare b s p : sProp 𝕄) := by
  unfold pieceP; exact Transfers.pointsTo_toks_join fullShare 4

/-! ## The schedule -/

/-- The pieces of the device `e` that its partner in direction `d` (seen from the partner) may write: with each, that round 0
    of the cell its arrival raises is reached. -/
def barItem (c : Dev nD) (d : Fin 4) (t : T) : sProp 𝕄 :=
  iprop(hAny (toward d c) (dstS t) (part t) ∗ reached ER (recvCell (toward d c) t) 0)
def barPay (c : Dev nD) (d : Fin 4) : sProp 𝕄 := bigSep (Finset.univ.filter fun t => dir t = d) (barItem (F := F) c d)
/-- Paid to the receiving cell: the piece, at what it is for. -/
def recvPay (X : Blocks F) (c : Dev nD) (t : T) : sProp 𝕄 := hPts c (dstS t) (part t) (KV X c)
/-- Paid to the sending cell: the source, at the share it was read at. -/
def sendPay (X : Blocks F) (c : Dev nD) (t : T) : sProp 𝕄 := pP X c (tokS (dir t)) (srcS t, part t)

def dutiesOf : Kd → Finset (Fin 4)
  | .bar => Finset.univ
  | .snd _ => {0}
  | .rcv _ => {0}
  | .none => ∅
def payOf (X : Blocks F) (c : Dev nD) (d : Fin 4) : Kd → sProp 𝕄
  | .bar => barPay c d
  | .snd t => sendPay X c t
  | .rcv t => recvPay X c t
  | .none => iprop(emp)
def amountIn : Kd → ℕ
  | .bar => 1
  | _ => N

/-- One round: four duties on every barrier cell, one on every sending and every receiving cell. -/
def rd (X : Blocks F) : Rounds.Schedule (GSem nD τ sig) (Fin 4) 𝕄 where
  duties g r := if r = 0 ∧ g.1.2 = .tc then dutiesOf (kindOf g.2) else ∅
  unitless _ := False
  amount g _ _ := amountIn (kindOf g.2)
  payload g _ d := payOf X g.1.1 d (kindOf g.2)
  amount_pos g _ _ _ := by
    cases kindOf g.2
    · exact Nat.one_pos
    · exact N_pos
    · exact N_pos
    · exact N_pos

instance rd_payload_storable (X : Blocks F) (g : GSem nD τ sig) (r : ℕ) (d : Fin 4) :
    BI.Storable (upEmb : UEmb _ 𝕄) ((rd (F := F) X).payload g r d) := by
  show BI.Storable upEmb (payOf X g.1.1 d (kindOf g.2))
  cases kindOf g.2
  · show BI.Storable upEmb (barPay g.1.1 d); unfold barPay barItem; infer_instance
  · show BI.Storable upEmb (sendPay X g.1.1 _); unfold sendPay pP pieceP; infer_instance
  · show BI.Storable upEmb (recvPay X g.1.1 _); unfold recvPay; infer_instance
  · show BI.Storable upEmb iprop(emp); infer_instance

section Sched

variable (X : Blocks F) (c : Dev nD) (t : T) (d : Fin 4)

theorem duties_bar : (rd X).duties (barCell c) 0 = Finset.univ := by dsimp only [rd]; exact if_pos ⟨rfl, rfl⟩
theorem duties_send : (rd X).duties (sendCell c t) 0 = {0} := by
  dsimp only [rd]; rw [if_pos ⟨rfl, rfl⟩, kindOf_send]; rfl
theorem duties_recv : (rd X).duties (recvCell c t) 0 = {0} := by
  dsimp only [rd]; rw [if_pos ⟨rfl, rfl⟩, kindOf_recv]; rfl
theorem duties_later (g : GSem nD τ sig) : ∀ r, 0 + 1 ≤ r → (rd X).duties g r = ∅ :=
  fun r hr => by dsimp only [rd]; exact if_neg fun h => by omega

theorem amount_bar : (rd X).amount (barCell c) 0 d = 1 := rfl
theorem amount_send : (rd X).amount (sendCell c t) 0 d = N := by
  show amountIn (kindOf (.dma (sendS t))) = N; rw [kindOf_send]; rfl
theorem amount_recv : (rd X).amount (recvCell c t) 0 d = N := by
  show amountIn (kindOf (.dma (recvS t))) = N; rw [kindOf_recv]; rfl

theorem expect_bar : (rd X).expect (barCell c) 0 = 4 := by
  unfold Schedule.expect Schedule.amountOf; rw [duties_bar]; rfl
theorem expect_send : (rd X).expect (sendCell c t) 0 = N := by
  unfold Schedule.expect Schedule.amountOf; rw [duties_send, Finset.sum_singleton, amount_send]
theorem expect_recv : (rd X).expect (recvCell c t) 0 = N := by
  unfold Schedule.expect Schedule.amountOf; rw [duties_recv, Finset.sum_singleton, amount_recv]

theorem payload_bar : (rd X).payload (barCell c) 0 d = barPay c d := rfl
theorem payload_send : (rd X).payload (sendCell c t) 0 d = sendPay X c t := by
  show payOf X c d (kindOf (.dma (sendS t))) = _; rw [kindOf_send]; rfl
theorem payload_recv : (rd X).payload (recvCell c t) 0 d = recvPay X c t := by
  show payOf X c d (kindOf (.dma (recvS t))) = _; rw [kindOf_recv]; rfl

theorem rest_bar : bigSep ((rd X).duties (barCell c) 0 \ ∅) (fun d => (rd X).payload (barCell c) 0 d) = bigSep Finset.univ (barPay (F := F) c) := by
  rw [Finset.sdiff_empty, duties_bar]; rfl
theorem rest_send : bigSep ((rd X).duties (sendCell c t) 0 \ ∅) (fun d => (rd X).payload (sendCell c t) 0 d) = sendPay X c t := by
  rw [Finset.sdiff_empty, duties_send, bigSep_singleton, payload_send]
theorem rest_recv : bigSep ((rd X).duties (recvCell c t) 0 \ ∅) (fun d => (rd X).payload (recvCell c t) 0 d) = recvPay X c t := by
  rw [Finset.sdiff_empty, duties_recv, bigSep_singleton, payload_recv]

end Sched

/-! ## What each device owes; the levels -/

/-- The credits still owed once the first `n` transfers have been started. -/
def O (n : ℕ) (c : Dev nD) : CellTallies nD τ sig Unit :=
  ∑ t ∈ (Finset.univ : Finset T).filter (fun t => n ≤ t.val), tallyAt (recvCell (toward (dir t) c) t) () N
theorem O_step (c : Dev nD) (t : T) : O t.val c = O (t.val + 1) c + tallyAt (recvCell (toward (dir t) c) t) () N := by
  unfold O
  rw [show (Finset.univ : Finset T).filter (fun u => t.val ≤ u.val) = insert t ((Finset.univ : Finset T).filter (fun u => t.val + 1 ≤ u.val)) from by
      ext u; simp only [Finset.mem_filter, Finset.mem_univ, true_and, Finset.mem_insert]
      constructor
      · intro h; by_cases e : u = t
        · exact .inl e
        · exact .inr (by have : u.val ≠ t.val := fun h' => e (Fin.ext h'); omega)
      · rintro (rfl | h)
        · exact le_rfl
        · omega,
    Finset.sum_insert (by simp), add_comm]
theorem O_end (c : Dev nD) : O 30 c = 0 := by
  unfold O
  rw [Finset.filter_false_of_mem (fun t _ => by have := t.isLt; omega), Finset.sum_empty]

/-- Its four neighbours' barrier units, in the order in which they are paid, last first; and all it owes at launch. -/
abbrev barDue (d : Fin 4) (c : Dev nD) : CellTallies nD τ sig Unit := tallyAt (barCell (toward d c)) () 1
def O₀ (c : Dev nD) : CellTallies nD τ sig Unit := O 0 c + barDue 1 c + barDue 0 c + barDue 3 c + barDue 2 c

theorem add_pos_or {A B : CellTallies nD τ sig Unit} {g : GSem nD τ sig} {u : Unit} (h : 0 < (A + B) g u) : 0 < A g u ∨ 0 < B g u := by
  rw [Pi.add_apply, Finsupp.add_apply] at h; omega
theorem tally_pos {g g' : GSem nD τ sig} {k : ℕ} {u : Unit} (h : 0 < (tallyAt g' () k : CellTallies nD τ sig Unit) g u) : g = g' := by
  rw [tallyAt_apply] at h
  split at h
  · next hg => exact hg.1
  · exact absurd h (Nat.lt_irrefl 0)
theorem O_pos {n : ℕ} {c : Dev nD} {g : GSem nD τ sig} {u : Unit} (h : 0 < O n c g u) : ∃ t : T, n ≤ t.val ∧ g = recvCell (toward (dir t) c) t := by
  unfold O at h
  suffices H : ∀ s : Finset T, 0 < (∑ t ∈ s, (tallyAt (recvCell (toward (dir t) c) t) () N : CellTallies nD τ sig Unit)) g u →
      ∃ t ∈ s, g = recvCell (toward (dir t) c) t by
    obtain ⟨t, ht, e⟩ := H _ h
    exact ⟨t, (Finset.mem_filter.mp ht).2, e⟩
  intro s
  induction s using Finset.induction_on with
  | empty => intro h; rw [Finset.sum_empty] at h; exact absurd h (Nat.lt_irrefl 0)
  | insert a s ha ih =>
    intro h
    rw [Finset.sum_insert ha] at h
    rcases add_pos_or h with h | h
    · exact ⟨a, Finset.mem_insert_self _ _, tally_pos h⟩
    · obtain ⟨t, ht, e⟩ := ih h
      exact ⟨t, Finset.mem_insert_of_mem ht, e⟩
theorem O₀_pos {c : Dev nD} {g : GSem nD τ sig} {u : Unit} (h : 0 < O₀ c g u) :
    (∃ t : T, g = recvCell (toward (dir t) c) t) ∨ ∃ d, g = barCell (toward d c) := by
  unfold O₀ at h
  rcases add_pos_or h with h | h
  · rcases add_pos_or h with h | h
    · rcases add_pos_or h with h | h
      · rcases add_pos_or h with h | h
        · obtain ⟨t, -, e⟩ := O_pos h; exact .inl ⟨t, e⟩
        · exact .inr ⟨_, tally_pos h⟩
      · exact .inr ⟨_, tally_pos h⟩
    · exact .inr ⟨_, tally_pos h⟩
  · exact .inr ⟨_, tally_pos h⟩

def L (g : GSem nD τ sig) : Finset Unit := if g.1.2 = .tc then {()} else ∅
/-- The levels: a barrier cell at 1, transfer `t`'s receiving cell at `t + 2`, the rest at 0. -/
def lvOf : Kd → ℕ
  | .bar => 1
  | .rcv t => t.val + 2
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (t : T) (u : Unit) : lv (recvCell c t) u = t.val + 2 := by
  show lvOf (kindOf (.dma (recvS t))) = _; rw [kindOf_recv]; rfl

theorem mayWait_of (c : Dev nD) (sm : SemLoc sig) (n : ℕ) (h : lvOf (kindOf sm) < n + 2) :
    (levAts L lv : sProp 𝕄) ⊢ MayWait (c : Thread nD τ) sm () (O n c) :=
  MayOwe.of_cut (L := L) (lev := lv) (lvOf (kindOf sm)) (fun p hp => by rw [Finset.mem_singleton.mp hp, L_tc]; exact Finset.mem_singleton_self _)
    (fun g u hg => by
      obtain ⟨t, -, rfl⟩ := O_pos hg
      rw [L_tc]; exact Finset.mem_singleton_self _)
    (fun p hp => by rw [Finset.mem_singleton.mp hp]; exact le_rfl)
    (fun g u hg => by
      obtain ⟨t, ht, rfl⟩ := O_pos hg
      rw [lv_recv]; omega)
/-- A device may wait at its barrier while it owes every transfer, -/
theorem mayWait_bar (c : Dev nD) : (levAts L lv : sProp 𝕄) ⊢ MayWait (c : Thread nD τ) (.reg barS) () (O 0 c) :=
  mayWait_of c _ 0 (by decide)
/-- and for an arrival while it owes only later transfers. -/
theorem mayWait_recv (c : Dev nD) (t : T) (n : ℕ) (h : t.val < n) : (levAts L lv : sProp 𝕄) ⊢ MayWait (c : Thread nD τ) (.dma (recvS t)) () (O n c) :=
  mayWait_of c _ n (by rw [kindOf_recv]; show t.val + 2 < n + 2; omega)

/-! ## The records every device may consult -/

abbrev scSem : T ⊕ T → SemLoc sig
  | .inl t => .dma (sendS t)
  | .inr t => .dma (recvS t)
theorem scSem_inj : Function.Injective scSem := by
  rintro (t | t) (u | u) h
  · exact congrArg Sum.inl (Kd.snd.inj ((kindOf_send t).symm.trans ((congrArg kindOf h).trans (kindOf_send u))))
  · exact absurd ((kindOf_send t).symm.trans ((congrArg kindOf h).trans (kindOf_recv u))) (fun h => by cases h)
  · exact absurd ((kindOf_recv t).symm.trans ((congrArg kindOf h).trans (kindOf_send u))) (fun h => by cases h)
  · exact congrArg Sum.inr (Kd.rcv.inj ((kindOf_recv t).symm.trans ((congrArg kindOf h).trans (kindOf_recv u))))

def barEmb : Dev nD ↪ GSem nD τ sig := ⟨fun c => barCell c, fun _ _ h => congrArg (fun g : GSem nD τ sig => g.1.1) h⟩
def scEmb : Dev nD × (T ⊕ T) ↪ GSem nD τ sig :=
  ⟨fun ck => ((ck.1 : Thread nD τ), scSem ck.2), fun _ _ h =>
    Prod.ext (congrArg (fun g : GSem nD τ sig => g.1.1) h) (scSem_inj (congrArg Prod.snd h))⟩

/-- The barrier cells, and the cells of the transfers. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem send_mem (c : Dev nD) (t : T) : sendCell c t ∈ (barCells ∪ scCells : Finset (GSem nD τ sig)) :=
  Finset.mem_union_right _ (Finset.mem_map_of_mem scEmb (Finset.mem_univ (c, Sum.inl t)))
theorem recv_mem (c : Dev nD) (t : T) : recvCell c t ∈ (barCells ∪ scCells : Finset (GSem nD τ sig)) :=
  Finset.mem_union_right _ (Finset.mem_map_of_mem scEmb (Finset.mem_univ (c, Sum.inr t)))

/-- Every cell's invariant, under one map of names. -/
def invs (X : Blocks F) (κ : GSem nD τ sig → ℕ) : sProp 𝕄 := bigSep (barCells ∪ scCells) fun g => cellInv ER (rd X) (κ g) g
instance invs_persistent (X : Blocks F) (κ : GSem nD τ sig → ℕ) : BI.Persistent (invs X κ) := by unfold invs; infer_instance
theorem inv_at (X : Blocks F) (κ : GSem nD τ sig → ℕ) {g : GSem nD τ sig} (hg : g ∈ (barCells ∪ scCells : Finset (GSem nD τ sig))) :
    invs X κ ⊢ cellInv ER (rd X) (κ g) g := bigSep_elim hg

theorem close (X : Blocks F) (κ : ℕ) (g : GSem nD τ sig) :
    iprop(cellInv ER (rd X) κ g ∗ atPos ER g (0 + 1) ∅ 0) ⊢ (|={Set.univ}=> semVal g 0 : sProp 𝕄) :=
  Rounds.cell_close ER (rd X) (Set.mem_univ κ) id (duties_later X g)

abbrev 𝒱₀ : Variants := Variants.none

end Cert.KernelIdeal.Talk

end
-- ==== Proof.Pass.lean ====
/-
  A pass over a slot: what it leaves in the running maximum, sum and weighted values, and that its program leaves that.
-/
module

public import proofs.«01_k».proof.Proof.Protocol

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem Idealize.ShloMosaic.Rounds
open Cert.KernelIdeal.Gen

variable {F : FTy → Type} [FloatOps F]

local notation "𝕄" => MT nD τ sig Unit (Elt F) ℕ UU ℕ

/-! ## The contents -/

abbrev CQ (F : FTy → Type) : Type := (cc0_stg0_0 : Ref sig .tc).ty.Contents (Elt F)
abbrev CG (F : FTy → Type) : Type := (cc0_scratch0 : Ref sig .tc).ty.Contents (Elt F)
abbrev CO (F : FTy → Type) : Type := (cc0_stg2_0 : Ref sig .tc).ty.Contents (Elt F)

/-- The running weighted values, maximum and sum. -/
structure Acc (F : FTy → Type) where
  a : (cc0_scratch1 : Ref sig .tc).ty.Contents (Elt F)
  m : (cc0_scratch2 : Ref sig .tc).ty.Contents (Elt F)
  l : (cc0_scratch3 : Ref sig .tc).ty.Contents (Elt F)

abbrev qAt (Q : CQ F) (b : Fin heads.trips) : Vec F S1x256x64 .bf16 := (qM.access (R3 b)).read (Elt F) Q
abbrev gAt (G : CG F) (s : Fin 16) (w : Fin 2) (b : Fin heads.trips) : Vec F S1x1x1x256x64 .bf16 := (gM.access (R5 s w b)).read (Elt F) G
abbrev aAt (a : (cc0_scratch1 : Ref sig .tc).ty.Contents (Elt F)) (b : Fin heads.trips) : Vec F S1x256x64 .f32 := (aM.access (R3 b)).read (Elt F) a
abbrev mAt (m : (cc0_scratch2 : Ref sig .tc).ty.Contents (Elt F)) (b : Fin heads.trips) : Vec F S1x256x1 .f32 := (mM.access (R1 b)).read (Elt F) m
abbrev lAt (l : (cc0_scratch3 : Ref sig .tc).ty.Contents (Elt F)) (b : Fin heads.trips) : Vec F S1x256x1 .f32 := (lM.access (R1 b)).read (Elt F) l

/-- What one trip of the first pass leaves, -/
def firstStep (Q : CQ F) (G : CG F) (b : Fin heads.trips) (S : Acc F) : Acc F where
  a := (aM.access (R3 b)).write (Elt F) S.a (firstA (qAt Q b) (gAt G 0 0 b) (gAt G 0 1 b)) Finset.univ
  m := (mM.access (R1 b)).write (Elt F) S.m (firstM (qAt Q b) (gAt G 0 0 b)) Finset.univ
  l := (lM.access (R1 b)).write (Elt F) S.l (firstL (qAt Q b) (gAt G 0 0 b)) Finset.univ
/-- and one of a later pass. -/
def nextStep (Q : CQ F) (G : CG F) (s : Fin 16) (b : Fin heads.trips) (S : Acc F) : Acc F where
  a := (aM.access (R3 b)).write (Elt F) S.a (nextA (qAt Q b) (gAt G s 0 b) (gAt G s 1 b) (mAt S.m b) (aAt S.a b)) Finset.univ
  m := (mM.access (R1 b)).write (Elt F) S.m (nextM (qAt Q b) (gAt G s 0 b) (mAt S.m b)) Finset.univ
  l := (lM.access (R1 b)).write (Elt F) S.l (nextL (qAt Q b) (gAt G s 0 b) (mAt S.m b) (lAt S.l b)) Finset.univ

/-- The first `k` trips. -/
def trips (f : Fin heads.trips → Acc F → Acc F) (S : Acc F) : ℕ → Acc F
  | 0 => S
  | k + 1 => if h : k < heads.trips then f ⟨k, h⟩ (trips f S k) else trips f S k
theorem trips_succ (f : Fin heads.trips → Acc F → Acc F) (S : Acc F) (b : Fin heads.trips) : trips f S (b.val + 1) = f b (trips f S b.val) :=
  dif_pos b.isLt

/-- A whole pass. -/
def firstOf (Q : CQ F) (G : CG F) (S : Acc F) : Acc F := trips (firstStep Q G) S heads.trips
def nextOf (Q : CQ F) (G : CG F) (s : Fin 16) (S : Acc F) : Acc F := trips (nextStep Q G s) S heads.trips

/-- What the close leaves in the output, head by head. -/
def outStep (S : Acc F) (b : Fin 16) (o : CO F) : CO F :=
  (oM.access (R3 (b.cast heads_trips.symm))).write (Elt F) o (quot (aAt S.a (b.cast heads_trips.symm)) (lAt S.l (b.cast heads_trips.symm))) Finset.univ
def outOf (S : Acc F) (l : List (Fin 16)) (o : CO F) : CO F := l.foldl (fun o b => outStep S b o) o

/-! ## The points-tos -/

abbrev pt (c : Dev nD) (b : Ref sig .tc) (f : b.ty.Contents (Elt F)) : sProp 𝕄 := (Memref.whole b).view.loc (c : Thread nD τ) ↦{fullShare} f

def accP (c : Dev nD) (S : Acc F) : sProp 𝕄 := iprop(pt c cc0_scratch1 S.a ∗ pt c cc0_scratch2 S.m ∗ pt c cc0_scratch3 S.l)

/-- Half `p` of slot `s`, at share `q` and contents `G`, -/
abbrev halfP (c : Dev nD) (q : PosShare TreeShare) (G : CG F) (s : Fin 16) (p : Fin 2) : sProp 𝕄 :=
  (half s p).view.loc (c : Thread nD τ) ↦[(half s p).view.set]{q} G
/-- and the slot's two halves. -/
abbrev slotP (c : Dev nD) (q : PosShare TreeShare) (G : CG F) (s : Fin 16) : sProp 𝕄 := iprop(halfP c q G s 0 ∗ halfP c q G s 1)

theorem R5_sub (s : Fin 16) (w : Fin 2) (b : Fin heads.trips) (p : Fin 2) (hp : 8 * p.val ≤ b.val ∧ b.val < 8 * p.val + 8) :
    (gM.access (R5 s w b)).set ⊆ (half s p).view.set := by
  intro i hi
  rw [show (gM.access (R5 s w b)).set = (R5 s w b).set from View.set_slice_whole _ _] at hi
  have h := Rect.mem_set_unit.mp hi
  have h0 := h 0
  have h2 := h 2
  have h0a : s.val ≤ (i 0).val := h0.1
  have h0b : (i 0).val < s.val + 1 := h0.2
  have h2a : hd b ≤ (i 2).val := h2.1
  have h2b : (i 2).val < hd b + 1 := h2.2
  rw [hd_eq] at h2a h2b
  exact mem_half.mpr ⟨by omega, by omega, by omega⟩

variable (c : Dev nD) {α : Type}

local notation "wpc" => wp frame (wpE (defs₀ (F := F)) 𝒱₀ (c : Thread nD τ) none) Set.univ

set_option maxHeartbeats 1600000 in
theorem wp_ld5 (q : PosShare TreeShare) (G : CG F) (s : Fin 16) (w : Fin 2) (b : Fin heads.trips) (k : Vec F S1x1x1x256x64 .bf16 → P F α) (Q : α → sProp 𝕄) :
    slotP c q G s ⊢ iprop((slotP c q G s -∗ wpc (k (gAt G s w b)) Q) -∗ wpc (ld5 s w b >>= k) Q) := by
  have hw : (ld5 s w b >>= k : P F α) = .op (.load gM (R5 s w b).toLoadRect (View.loadsAt_vmem h_S1x1x1x256x64)) k := rfl
  rw [hw]
  have hbl : b.val < 16 := by rw [← hd_eq]; exact hd_lt b
  by_cases hb : b.val < 8
  · have h := wp_load_rect (m := gM) (r := R5 s w b) (hl := View.loadsAt_vmem h_S1x1x1x256x64) (Λ := Λ₀) (defs := defs₀ (F := F)) (Γ := []) 𝒱₀ (c : Thread nD τ) none Set.univ
      (k := k) (Q := Q) (S := (half s 0).view.set) (q := q) (f := G) (R5_sub s w b 0 ⟨Nat.zero_le _, hb⟩)
    iintro ⟨H0, H1⟩ Hk
    iapply h $$ H0
    iintro H0
    iapply Hk
    isplitl [H0] <;> iassumption
  · have h := wp_load_rect (m := gM) (r := R5 s w b) (hl := View.loadsAt_vmem h_S1x1x1x256x64) (Λ := Λ₀) (defs := defs₀ (F := F)) (Γ := []) 𝒱₀ (c : Thread nD τ) none Set.univ
      (k := k) (Q := Q) (S := (half s 1).view.set) (q := q) (f := G) (R5_sub s w b 1 ⟨show 8 * 1 ≤ b.val by omega, show b.val < 8 * 1 + 8 by omega⟩)
    iintro ⟨H0, H1⟩ Hk
    iapply h $$ H1
    iintro H1
    iapply Hk
    isplitl [H0] <;> iassumption

theorem wp_ld3 (b : Fin heads.trips) (f : CQ F) (k : Vec F S1x256x64 .bf16 → P F α) (Q : α → sProp 𝕄) :
    pt c cc0_stg0_0 f ⊢ iprop((pt c cc0_stg0_0 f -∗ wpc (k (qAt f b)) Q) -∗ wpc (ld3 qM b >>= k) Q) :=
  wp_load_rect (m := qM) (r := R3 b) (hl := View.loadsAt_vmem h_S1x256x64) (Λ := Λ₀) (defs := defs₀ (F := F)) 𝒱₀ (c : Thread nD τ) none Set.univ
    (k := k) (Q := Q) (S := Finset.univ) (q := fullShare) (f := f) (Finset.subset_univ _)
theorem wp_ld3f (M : Memref sig .tc .vmem S16x256x64 .f32) (b : Fin heads.trips) (f : Buf (Elt F) (M.view.loc (c : Thread nD τ)))
    (k : Vec F S1x256x64 .f32 → P F α) (Q : α → sProp 𝕄) :
    (M.view.loc (c : Thread nD τ) ↦{fullShare} f) ⊢ iprop(((M.view.loc (c : Thread nD τ) ↦{fullShare} f) -∗ wpc (k ((M.access (R3 b)).read (Elt F) f)) Q)
      -∗ wpc (ld3f M b >>= k) Q) :=
  wp_load_rect (m := M) (r := R3 b) (hl := View.loadsAt_vmem h_S1x256x64) (Λ := Λ₀) (defs := defs₀ (F := F)) 𝒱₀ (c : Thread nD τ) none Set.univ
    (k := k) (Q := Q) (S := Finset.univ) (q := fullShare) (f := f) (Finset.subset_univ _)
theorem wp_ld1 (M : Memref sig .tc .vmem S16x256x1 .f32) (b : Fin heads.trips) (f : Buf (Elt F) (M.view.loc (c : Thread nD τ)))
    (k : Vec F S1x256x1 .f32 → P F α) (Q : α → sProp 𝕄) :
    (M.view.loc (c : Thread nD τ) ↦{fullShare} f) ⊢ iprop(((M.view.loc (c : Thread nD τ) ↦{fullShare} f) -∗ wpc (k ((M.access (R1 b)).read (Elt F) f)) Q)
      -∗ wpc (ld1 M b >>= k) Q) :=
  wp_load_rect (m := M) (r := R1 b) (hl := View.loadsAt_vmem h_S1x256x1) (Λ := Λ₀) (defs := defs₀ (F := F)) 𝒱₀ (c : Thread nD τ) none Set.univ
    (k := k) (Q := Q) (S := Finset.univ) (q := fullShare) (f := f) (Finset.subset_univ _)
theorem wp_st3 (M : Memref sig .tc .vmem S16x256x64 .f32) (b : Fin heads.trips) (w : FVec F S1x256x64 .f32) (f : Buf (Elt F) (M.view.loc (c : Thread nD τ)))
    (k : PUnit.{1} → P F α) (Q : α → sProp 𝕄) :
    (M.view.loc (c : Thread nD τ) ↦{fullShare} f) ⊢ iprop(((M.view.loc (c : Thread nD τ) ↦{fullShare} ((M.access (R3 b)).write (Elt F) f w Finset.univ)) -∗ wpc (k ⟨⟩) Q)
      -∗ wpc (st3 M b w >>= k) Q) :=
  wp_store (m := M) (r := R3 b) (w := w) (Mk := Finset.univ) (Λ := Λ₀) (defs := defs₀ (F := F)) 𝒱₀ (c : Thread nD τ) none Set.univ
    (k := k) (Q := Q) (S := Finset.univ) (f := f) (Finset.subset_univ _)
theorem wp_st1 (M : Memref sig .tc .vmem S16x256x1 .f32) (b : Fin heads.trips) (w : FVec F S1x256x1 .f32) (f : Buf (Elt F) (M.view.loc (c : Thread nD τ)))
    (k : PUnit.{1} → P F α) (Q : α → sProp 𝕄) :
    (M.view.loc (c : Thread nD τ) ↦{fullShare} f) ⊢ iprop(((M.view.loc (c : Thread nD τ) ↦{fullShare} ((M.access (R1 b)).write (Elt F) f w Finset.univ)) -∗ wpc (k ⟨⟩) Q)
      -∗ wpc (st1 M b w >>= k) Q) :=
  wp_store (m := M) (r := R1 b) (w := w) (Mk := Finset.univ) (Λ := Λ₀) (defs := defs₀ (F := F)) 𝒱₀ (c : Thread nD τ) none Set.univ
    (k := k) (Q := Q) (S := Finset.univ) (f := f) (Finset.subset_univ _)

/-! ## The trips and the passes -/

variable (q : PosShare TreeShare) (Qc : CQ F) (G : CG F)

/-- What a pass works with. -/
def passI (s : Fin 16) (S : Acc F) : sProp 𝕄 := iprop(pt c cc0_stg0_0 Qc ∗ slotP c q G s ∗ accP c S)

set_option maxHeartbeats 1600000 in
theorem wp_nextTrip (s : Fin 16) (b : Fin heads.trips) (S : Acc F) :
    passI c q Qc G s S ⊢ wpc (nextTrip s b ⟨⟩) (fun _ => passI c q Qc G s (nextStep Qc G s b S)) := by
  unfold nextTrip passI accP
  iintro ⟨Hq, Hg, Ha, Hm, Hl⟩
  iapply (wp_ld3 c b Qc _ _) $$ Hq; iintro Hq
  iapply (wp_ld5 c q G s 0 b _ _) $$ Hg; iintro Hg
  iapply (wp_ld5 c q G s 1 b _ _) $$ Hg; iintro Hg
  iapply (wp_ld1 c mM b S.m _ _) $$ Hm; iintro Hm
  iapply (wp_ld1 c lM b S.l _ _) $$ Hl; iintro Hl
  iapply (wp_ld1 c lM b S.l _ _) $$ Hl; iintro Hl
  iapply (wp_st1 c lM b _ S.l _ _) $$ Hl; iintro Hl
  iapply (wp_ld3f c aM b S.a _ _) $$ Ha; iintro Ha
  iapply (wp_ld3f c aM b S.a _ _) $$ Ha; iintro Ha
  iapply (wp_st3 c aM b _ S.a _ _) $$ Ha; iintro Ha
  iapply (wp_ld1 c mM b S.m _ _) $$ Hm; iintro Hm
  iapply (wp_st1 c mM b _ S.m _ _) $$ Hm; iintro Hm
  rw [Prog.pure_eq_ret, wp_ret]
  imodintro
  isplitl [Hq]; · iexact Hq
  isplitl [Hg]; · iexact Hg
  isplitl [Ha]; · iexact Ha
  isplitl [Hm]; · iexact Hm
  iexact Hl

set_option maxHeartbeats 1600000 in
theorem wp_firstTrip (b : Fin heads.trips) (S : Acc F) :
    passI c q Qc G 0 S ⊢ wpc (firstTrip b ⟨⟩) (fun _ => passI c q Qc G 0 (firstStep Qc G b S)) := by
  unfold firstTrip passI accP
  iintro ⟨Hq, Hg, Ha, Hm, Hl⟩
  iapply (wp_ld3 c b Qc _ _) $$ Hq; iintro Hq
  iapply (wp_ld5 c q G 0 0 b _ _) $$ Hg; iintro Hg
  iapply (wp_ld5 c q G 0 1 b _ _) $$ Hg; iintro Hg
  iapply (wp_ld1 c lM b S.l _ _) $$ Hl; iintro Hl
  iapply (wp_st1 c lM b _ S.l _ _) $$ Hl; iintro Hl
  iapply (wp_ld3f c aM b S.a _ _) $$ Ha; iintro Ha
  iapply (wp_st3 c aM b _ S.a _ _) $$ Ha; iintro Ha
  iapply (wp_ld1 c mM b S.m _ _) $$ Hm; iintro Hm
  iapply (wp_st1 c mM b _ S.m _ _) $$ Hm; iintro Hm
  rw [Prog.pure_eq_ret, wp_ret]
  imodintro
  isplitl [Hq]; · iexact Hq
  isplitl [Hg]; · iexact Hg
  isplitl [Ha]; · iexact Ha
  isplitl [Hm]; · iexact Hm
  iexact Hl

/-- A later pass leaves `nextOf`; -/
theorem wp_nextPass (s : Fin 16) (S : Acc F) (k : PUnit.{1} → P F α) (Q : α → sProp 𝕄) :
    passI c q Qc G s S ⊢ iprop((passI c q Qc G s (nextOf Qc G s S) -∗ wpc (k ⟨⟩) Q) -∗ wpc (nextPass s >>= k) Q) := by
  have h := Scf.wp_for_bind frame (wpE (defs₀ (F := F)) 𝒱₀ (c : Thread nD τ) none) Set.univ heads.lb heads.ub heads.st heads_ok
    PUnit.unit (nextTrip (F := F) s) (fun n _ => passI c q Qc G s (trips (nextStep Qc G s) S n))
    (fun b _ => (wp_nextTrip c q Qc G s b _).trans (wp_mono frame _ _ (fun _ => by rw [trips_succ]))) (kk := k) (Q := Q)
  iintro HI Hk
  ihave HI := (show passI c q Qc G s S ⊢ passI c q Qc G s (trips (nextStep Qc G s) S 0) from .rfl) $$ HI
  iapply h $$ HI
  iintro %_ HI
  iapply Hk; iexact HI

/-- and the first pass, over the device's own block, `firstOf`. -/
theorem wp_firstPass (S : Acc F) (k : PUnit.{1} → P F α) (Q : α → sProp 𝕄) :
    passI c q Qc G 0 S ⊢ iprop((passI c q Qc G 0 (firstOf Qc G S) -∗ wpc (k ⟨⟩) Q) -∗ wpc (firstPass >>= k) Q) := by
  have h := Scf.wp_for_bind frame (wpE (defs₀ (F := F)) 𝒱₀ (c : Thread nD τ) none) Set.univ heads.lb heads.ub heads.st heads_ok
    PUnit.unit (firstTrip (F := F)) (fun n _ => passI c q Qc G 0 (trips (firstStep Qc G) S n))
    (fun b _ => (wp_firstTrip c q Qc G b _).trans (wp_mono frame _ _ (fun _ => by rw [trips_succ]))) (kk := k) (Q := Q)
  iintro HI Hk
  ihave HI := (show passI c q Qc G 0 S ⊢ passI c q Qc G 0 (trips (firstStep Qc G) S 0) from .rfl) $$ HI
  iapply h $$ HI
  iintro %_ HI
  iapply Hk; iexact HI

/-! ## The output -/

theorem wp_outTrip (S : Acc F) (b : Fin 16) (o : CO F) (k : P F α) (Q : α → sProp 𝕄) :
    iprop(accP c S ∗ pt c cc0_stg2_0 o) ⊢ iprop((accP c S -∗ pt c cc0_stg2_0 (outStep S b o) -∗ wpc k Q) -∗ wpc (outTrip b k) Q) := by
  unfold outTrip accP
  iintro ⟨⟨Ha, Hm, Hl⟩, Ho⟩ Hk
  iapply (wp_ld3f c aM _ S.a _ _) $$ Ha; iintro Ha
  iapply (wp_ld1 c lM _ S.l _ _) $$ Hl; iintro Hl
  iapply (wp_ld3f c oM _ o _ _) $$ Ho; iintro Ho
  iapply (wp_st3 c oM _ _ o _ _) $$ Ho; iintro Ho
  iapply Hk $$ [Ha Hm Hl]
  · isplitl [Ha]; · iexact Ha
    isplitl [Hm]; · iexact Hm
    iexact Hl
  iexact Ho

theorem wp_runOut (S : Acc F) (l : List (Fin 16)) (o : CO F) (k : P F α) (Q : α → sProp 𝕄) :
    iprop(accP c S ∗ pt c cc0_stg2_0 o) ⊢ iprop((accP c S -∗ pt c cc0_stg2_0 (outOf S l o) -∗ wpc k Q) -∗ wpc (runOut l k) Q) := by
  induction l generalizing o with
  | nil =>
    iintro ⟨Ha, Ho⟩ Hk
    iapply Hk $$ Ha
    iexact Ho
  | cons b l ih =>
    iintro H Hk
    iapply (wp_outTrip c S b o (runOut l k) Q) $$ H
    iintro Ha Ho
    iapply (ih (outStep S b o)) $$ [Ha Ho]
    · isplitl [Ha] <;> iassumption
    iexact Hk

end Cert.KernelIdeal.Talk

end
-- ==== Proof.Steps.lean ====
/-
  The steps of the exchange: what a device holds between two of its actions, how each action changes it, and a whole list of
  actions at once.
-/
module

public import proofs.«01_k».proof.Proof.Pass

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem Idealize.ShloMosaic.Rounds
open Cert.KernelIdeal.Gen

variable {F : FTy → Type} [FloatOps F]

local notation "𝕄" => MT nD τ sig Unit (Elt F) ℕ UU ℕ

/-! ## The state -/

/-- Where a device stands: how many transfers it has started, which it has received and which it knows sent, which pieces it
    holds, and which of a piece's four shares are lent to a transfer. -/
structure St where
  n : ℕ
  R : T → Bool
  D : T → Bool
  B : H → Bool
  U : H → Fin 4 → Bool

abbrev srcH (t : T) : H := (srcS t, part t)
abbrev dstH (t : T) : H := (dstS t, part t)

def St.start (st : St) (t : T) : St :=
  { st with n := t.val + 1, U := fun h d => if h = srcH t ∧ d = dir t then true else st.U h d }
def St.recv (st : St) (t : T) : St :=
  { st with R := fun u => if u = t then true else st.R u, B := fun h => if h = dstH t then true else st.B h }
def St.sent (st : St) (t : T) : St :=
  { st with D := fun u => if u = t then true else st.D u, U := fun h d => if h = srcH t ∧ d = dir t then false else st.U h d }

def St.okStart (st : St) (t : T) : Bool := decide (st.n = t.val) && (!st.D t && (st.B (srcH t) && !st.U (srcH t) (dir t)))
def St.okRecv (st : St) (t : T) : Bool := decide (t.val < st.n) && (!st.R t && (!st.B (dstH t) && decide (∀ d, st.U (dstH t) d = false)))
def St.okSent (st : St) (t : T) : Bool := decide (st.n = 30) && (!st.D t && (st.B (srcH t) && st.U (srcH t) (dir t)))
def St.okPass (st : St) (s : Fin 16) : Bool := !isOwn s && (st.B (s, 0) && st.B (s, 1))

def St.step (st : St) : Act → St
  | .start t => st.start t
  | .recv t => st.recv t
  | .pass _ => st
def St.ok (st : St) : Act → Bool
  | .start t => st.okStart t
  | .recv t => st.okRecv t
  | .pass s => st.okPass s

def runSt : List Act → St → St
  | [], st => st
  | a :: l, st => runSt l (st.step a)
def okActs : List Act → St → Bool
  | [], _ => true
  | a :: l, st => st.ok a && okActs l (st.step a)
def sentSt : List T → St → St
  | [], st => st
  | t :: l, st => sentSt l (st.sent t)
def okSents : List T → St → Bool
  | [], _ => true
  | t :: l, st => st.okSent t && okSents l (st.sent t)

/-- After the barrier: nothing started, only the device's own block in hand. -/
def st₀ : St := ⟨0, fun _ => false, fun _ => false, fun h => isOwn h.1, fun _ _ => false⟩

/-- The list with which the body starts. -/
def acts₀ : List Act := [.start 0, .start 1, .start 2, .start 3, .start 4, .start 5, .start 6, .start 7]

theorem ok_acts₀ : okActs acts₀ st₀ = true := by decide +kernel
theorem ok_acts : okActs acts (runSt acts₀ st₀) = true := by decide +kernel
theorem ok_sents : okSents sents (runSt acts (runSt acts₀ st₀)) = true := by decide +kernel

/-- The state at the end: -/
def stEnd : St := sentSt sents (runSt acts (runSt acts₀ st₀))
theorem end_n : stEnd.n = 30 := by decide +kernel
theorem end_R : ∀ t, stEnd.R t = true := by decide +kernel
theorem end_D : ∀ t, stEnd.D t = true := by decide +kernel
theorem end_B : ∀ h, stEnd.B h = true := by decide +kernel
theorem end_U : ∀ h d, stEnd.U h d = false := by decide +kernel

/-! ## What the device holds -/

variable (X : Blocks F) (κ : GSem nD τ sig → ℕ) (c : Dev nD) (st : St)

/-- With a transfer not yet started: the two duties it pays, the position on its sending cell, and the piece it is to write. -/
def fresh (t : T) : sProp 𝕄 :=
  iprop(dutyTok ER (sendCell c t) 0 0 ∗ dutyTok ER (recvCell (toward (dir t) c) t) 0 0 ∗ atPos ER (sendCell c t) 0 ∅ 0
    ∗ reached ER (sendCell c t) 0 ∗ barItem c (dir t) t)
/-- With one on its way. -/
def going (t : T) : sProp 𝕄 := iprop(cred (tallyAt (sendCell c t) () N) ∗ atPos ER (sendCell c t) 0 ∅ 0)
/-- A transfer's sending side, -/
def sendR (t : T) : sProp 𝕄 := if st.D t = true then semVal (sendCell c t) 0 else if t.val < st.n then going c t else fresh c t
/-- its arrival here, -/
def recvR (t : T) : sProp 𝕄 :=
  if st.R t = true then semVal (recvCell c t) 0 else iprop(cred (tallyAt (recvCell c t) () N) ∗ atPos ER (recvCell c t) 0 ∅ 0)
/-- a piece. -/
def lentR (h : H) (d : Fin 4) : sProp 𝕄 := if st.U h d = true then iprop(emp) else pP X c (tokS d) h
def pieceR (h : H) : sProp 𝕄 := if st.B h = true then iprop(pP X c keepS h ∗ bigSep Finset.univ (lentR X c st h)) else iprop(emp)

def holds : sProp 𝕄 :=
  iprop(bigSep Finset.univ (sendR c st) ∗ bigSep Finset.univ (recvR c st) ∗ bigSep Finset.univ (pieceR X c st)
    ∗ ∃ W, owes (c : Thread nD τ) (O st.n c) W)

/-- What every device knows. -/
def known : sProp 𝕄 := iprop(invs X κ ∗ levAts L lv)
instance known_persistent : BI.Persistent (known X κ) := by unfold known; infer_instance

variable {α : Type} (k : PUnit.{1} → P F α)

local notation "wpc" => wp frame (wpE (defs₀ (F := F)) 𝒱₀ (c : Thread nD τ) none) Set.univ

/-- A device's transfers' targets. -/
abbrev tgt : T → Dev nD := fun t => toward (dir t) c

/-- A transfer's rule, for any source and destination. -/
theorem wp_sendG (Q : α → sProp 𝕄) (src dst : Memref sig .tc .vmem S2x8x256x64 .bf16) (hs : src.view.WordExact) (hd : dst.view.WordExact) (e : Dev nD) (a b : DmaSem sig)
    (q : PosShare TreeShare) (fs : Buf (Elt F) (src.view.loc (c : Thread nD τ))) (fd : Buf (Elt F) (dst.view.loc (e : Thread nD τ))) (κ₁ κ₂ : ℕ)
    (hd₁ : (0 : Fin 4) ∈ (rd X).duties ((c : Thread nD τ), .dma a) 0) (hd₂ : (0 : Fin 4) ∈ (rd X).duties ((e : Thread nD τ), .dma b) 0)
    (hN : dst.view.dmaCredit = N) (hk₁ : (rd X).amount ((c : Thread nD τ), .dma a) 0 0 = N) (hk₂ : (rd X).amount ((e : Thread nD τ), .dma b) 0 0 = N)
    (O₁ O₂ : CellTallies nD τ sig Unit) (hO : O₁ = O₂ + tallyAt ((e : Thread nD τ), .dma b) () N) (W : Waits sig Unit) (A B : sProp 𝕄)
    (hA₁ : A ⊢ (src.view.loc (c : Thread nD τ) ↦[src.view.set]{q} fs)) (hA₂ : (src.view.loc (c : Thread nD τ) ↦[src.view.set]{q} fs) ⊢ A)
    (hA : A = (rd X).payload ((c : Thread nD τ), .dma a) 0 0)
    (hB : (dst.view.loc (e : Thread nD τ) ↦[dst.view.set]{fullShare} (dst.view.write (Elt F) fd (src.view.read (Elt F) fs) Finset.univ)) ⊢ B)
    (hB' : B = (rd X).payload ((e : Thread nD τ), .dma b) 0 0) :
    iprop(cellInv ER (rd X) κ₁ ((c : Thread nD τ), .dma a) ∗ cellInv ER (rd X) κ₂ ((e : Thread nD τ), .dma b)
        ∗ A ∗ (dst.view.loc (e : Thread nD τ) ↦[dst.view.set]{fullShare} fd) ∗ owes (c : Thread nD τ) O₁ W
        ∗ dutyTok ER ((c : Thread nD τ), .dma a) 0 0 ∗ reached ER ((c : Thread nD τ), .dma a) 0
        ∗ dutyTok ER ((e : Thread nD τ), .dma b) 0 0 ∗ reached ER ((e : Thread nD τ), .dma b) 0)
      ⊢ iprop(((cred (tallyAt ((c : Thread nD τ), .dma a) () N) ∗ owes (c : Thread nD τ) O₂ W) -∗ wpc (k ⟨⟩) Q)
          -∗ wpc (send src dst hs hd e a b >>= k) Q) := by
  have h := Rounds.wp_send_pointsTo 𝒱₀ ER (rd X) (c : Thread nD τ) none (c' := (e : Thread nD τ)) (src := src) (dst := dst) (k := k) (Q := Q)
      (sS := .dma a) (sem := .dma b) (hsrc := hs) (hdst := hd) (hsem := ⟨⟨rfl, Or.inl rfl⟩, trivial⟩) (hsc := rfl) (q := q) (fs := fs) (κ₁ := κ₁) (κ₂ := κ₂) (Λ := Λ₀) (defs := defs₀ (F := F)) (Γ := []) (Es := Set.univ)
      (r₁ := 0) (r₂ := 0) (d₁ := 0) (d₂ := 0) (fd := fd) hd₁ hd₂ () () N ((View.amount_dma ..).trans hN) hk₁ hk₂ O₂ hO (W := W)
      (hA₂.trans (Entails.of_eq hA)) (hB.trans (Entails.of_eq hB'))
  iintro ⟨H1, H2, HA, Hr⟩ Hk
  ihave HA := hA₁ $$ HA
  iapply h $$ [H1 H2 HA Hr]
  · isplitl [H1]; · iexact H1
    isplitl [H2]; · iexact H2
    isplitl [HA]; · iexact HA
    iexact Hr
  iexact Hk
theorem start_op (t : T) : (Act.run (tgt c) (.start t) >>= k : P F α) = (send (srcM t) (dstM t) (srcM_wx t) (half_wx _ _) (toward (dir t) c) (sendS t) (recvS t) >>= k) := rfl
theorem recv_op (t : T) : (Act.run (tgt c) (.recv t) >>= k : P F α) = .op (.waitDma2 (recvS t) (srcM t) (dstM t) (srcM_wx t) (half_wx _ _)) k := rfl
theorem sent_op (t : T) : (sent t >>= k : P F α) = .op (.waitDma2 (sendS t) (dstM t) (srcM t) (half_wx _ _) (srcM_wx t)) k := rfl
/-- The transfer itself: it takes the source at its share, the destination, and the two duties. -/
theorem wp_sendOf (Q : α → sProp 𝕄) (t : T) (fd : CG F) (W : Waits sig Unit) :
    iprop(cellInv ER (rd X) (κ (sendCell c t)) (sendCell c t) ∗ cellInv ER (rd X) (κ (recvCell (toward (dir t) c) t)) (recvCell (toward (dir t) c) t)
        ∗ sendPay X c t ∗ hPts (toward (dir t) c) (dstS t) (part t) fd ∗ owes (c : Thread nD τ) (O t.val c) W
        ∗ dutyTok ER (sendCell c t) 0 0 ∗ reached ER (sendCell c t) 0
        ∗ dutyTok ER (recvCell (toward (dir t) c) t) 0 0 ∗ reached ER (recvCell (toward (dir t) c) t) 0)
      ⊢ iprop(((cred (tallyAt (sendCell c t) () N) ∗ owes (c : Thread nD τ) (O (t.val + 1) c) W) -∗ wpc (k ⟨⟩) Q)
          -∗ wpc (send (srcM t) (dstM t) (srcM_wx t) (half_wx _ _) (toward (dir t) c) (sendS t) (recvS t) >>= k) Q) :=
  wp_sendG X c k Q (srcM t) (dstM t) (srcM_wx t) (half_wx _ _) (toward (dir t) c) (sendS t) (recvS t) (tokS (dir t))
    (pieceV X c (isOwn (srcS t)) (srcS t) (part t)) fd (κ (sendCell c t)) (κ (recvCell (toward (dir t) c) t))
    (by rw [duties_send]; exact Finset.mem_singleton_self _) (by rw [duties_recv]; exact Finset.mem_singleton_self _)
    (credit_half _ _) (amount_send X c t 0) (amount_recv X (toward (dir t) c) t 0) (O t.val c) (O (t.val + 1) c) (O_step c t) W
    (sendPay X c t) (recvPay X (toward (dir t) c) t) (by unfold sendPay pP pieceP; exact .rfl) (by unfold sendPay pP pieceP; exact .rfl) (payload_send X c t 0).symm
    (by unfold recvPay; exact Entails.of_eq (pointsTo_congr (landed X c t fd))) (payload_recv X (toward (dir t) c) t 0).symm

/-- The wait for an arrival: the piece comes with it. -/
theorem wp_recvOf (Q : α → sProp 𝕄) (t : T) (n : ℕ) (hn : t.val < n) (W : Waits sig Unit) :
    iprop(cellInv ER (rd X) (κ (recvCell c t)) (recvCell c t) ∗ levAts L lv ∗ cred (tallyAt (recvCell c t) () N) ∗ owes (c : Thread nD τ) (O n c) W
        ∗ atPos ER (recvCell c t) 0 ∅ 0)
      ⊢ iprop(((owes (c : Thread nD τ) (O n c) (insert (SemLoc.dma (recvS t), ()) W) ∗ atPos ER (recvCell c t) (0 + 1) ∅ 0 ∗ recvPay X c t) -∗ wpc (k ⟨⟩) Q)
          -∗ wpc (.op (.waitDma2 (recvS t) (srcM t) (dstM t) (srcM_wx t) (half_wx _ _)) k) Q) := by
  have h := Rounds.wp_wait_rest_token 𝒱₀ ER (rd X) (c : Thread nD τ) none (κ := κ (recvCell c t)) (k := k) (Q := Q)
      (w := .waitDma2 (recvS t) (srcM t) (dstM t) (srcM_wx t) (half_wx _ _)) (sm := .dma (recvS t)) (k' := N)
      (Λ := Λ₀) (defs := defs₀ (F := F)) (Γ := []) (Es := Set.univ)
      (wpE_waitDma2_eq (src := srcM t) (dst := dstM t) (hsrc := srcM_wx t) (hdst := half_wx _ _) 𝒱₀ (c : Thread nD τ) none Set.univ) (Set.mem_univ _) () (O := O n c) (W := W) (R := 0) (m := 0) (T := ∅)
      ((Nat.zero_add _).trans (expect_recv X c t).symm)
  rw [rest_recv] at h
  iintro ⟨HI, Hlev, Hc, HO, Hat⟩ Hk
  iapply h $$ [HI Hlev Hc HO Hat]
  · isplitl [HI]; · iexact HI
    isplitl [Hc]; · iexact Hc
    isplitl [HO]; · iexact HO
    isplitl [Hlev]; · iapply (mayWait_recv c t n hn); iexact Hlev
    iexact Hat
  iintro ⟨HO, Hat, -, Hp⟩
  iapply Hk
  isplitl [HO]; · iexact HO
  isplitl [Hat]; · iexact Hat
  iexact Hp

/-- The wait for a transfer to have been sent: the source comes back. -/
theorem wp_sentOf (Q : α → sProp 𝕄) (t : T) (W : Waits sig Unit) :
    iprop(cellInv ER (rd X) (κ (sendCell c t)) (sendCell c t) ∗ cred (tallyAt (sendCell c t) () N) ∗ owes (c : Thread nD τ) (O 30 c) W
        ∗ atPos ER (sendCell c t) 0 ∅ 0)
      ⊢ iprop(((owes (c : Thread nD τ) (O 30 c) (insert (SemLoc.dma (sendS t), ()) W) ∗ atPos ER (sendCell c t) (0 + 1) ∅ 0 ∗ sendPay X c t) -∗ wpc (k ⟨⟩) Q)
          -∗ wpc (.op (.waitDma2 (sendS t) (dstM t) (srcM t) (half_wx _ _) (srcM_wx t)) k) Q) := by
  have hN : (srcM t).view.dmaCredit = N := credit_piece (isOwn (srcS t)) (srcS t) (part t)
  have h := Rounds.wp_wait_rest_token 𝒱₀ ER (rd X) (c : Thread nD τ) none (κ := κ (sendCell c t)) (k := k) (Q := Q)
      (w := .waitDma2 (sendS t) (dstM t) (srcM t) (half_wx _ _) (srcM_wx t)) (sm := .dma (sendS t)) (k' := (srcM t).view.dmaCredit)
      (Λ := Λ₀) (defs := defs₀ (F := F)) (Γ := []) (Es := Set.univ)
      (wpE_waitDma2_eq (src := dstM t) (dst := srcM t) (hsrc := half_wx _ _) (hdst := srcM_wx t) 𝒱₀ (c : Thread nD τ) none Set.univ) (Set.mem_univ _) () (O := O 30 c) (W := W) (R := 0) (m := 0) (T := ∅)
      ((Nat.zero_add _).trans (hN.trans (expect_send X c t).symm))
  rw [rest_send, hN] at h
  rw [O_end] at h ⊢
  iintro ⟨HI, Hc, HO, Hat⟩ Hk
  iapply h $$ [HI Hc HO Hat]
  · isplitl [HI]; · iexact HI
    isplitl [Hc]; · iexact Hc
    isplitl [HO]; · iexact HO
    isplitr; · rw [MayWait_zero]; iempintro
    iexact Hat
  iintro ⟨HO, Hat, -, Hp⟩
  iapply Hk
  isplitl [HO]; · iexact HO
  isplitl [Hat]; · iexact Hat
  iexact Hp

set_option maxHeartbeats 1600000 in
theorem wp_start (Q : α → sProp 𝕄) (t : T) (h : st.okStart t = true) :
    iprop(known X κ ∗ holds X c st) ⊢ iprop((holds X c (st.start t) -∗ wpc (k ⟨⟩) Q) -∗ wpc (Act.run (tgt c) (.start t) >>= k) Q) := by
  unfold St.okStart at h
  simp only [Bool.and_eq_true, decide_eq_true_eq, Bool.not_eq_true'] at h
  obtain ⟨hn, hD, hB, hU⟩ := h
  have e1 : ∀ u, u ≠ t → sendR (F := F) c (st.start t) u = sendR c st u := fun u hu => by
    have : u.val ≠ t.val := fun h' => hu (Fin.ext h')
    unfold sendR
    by_cases hd : st.D u = true
    · rw [if_pos hd, if_pos (show (st.start t).D u = true from hd)]
    rw [if_neg hd, if_neg (show ¬ (st.start t).D u = true from hd)]
    by_cases hl : u.val < t.val
    · rw [if_pos (show u.val < (st.start t).n from Nat.lt_succ_of_lt hl), if_pos (by omega)]
    · rw [if_neg (show ¬ u.val < (st.start t).n from fun h => by have h : u.val < t.val + 1 := h; omega), if_neg (by omega)]
  have e2 : ∀ h, h ≠ srcH t → pieceR X c (st.start t) h = pieceR X c st h := fun h hh => by
    unfold pieceR lentR; simp only [St.start]; simp [hh]
  have e3 : ∀ d, d ≠ dir t → lentR X c (st.start t) (srcH t) d = lentR X c st (srcH t) d := fun d hd => by
    unfold lentR; simp [St.start, hd]
  have e4 : sendR (F := F) c st t = fresh c t := by unfold sendR; rw [if_neg (by rw [hD]; decide), if_neg (by omega)]
  have e5 : sendR (F := F) c (st.start t) t = going c t := by
    unfold sendR; rw [if_neg (by show ¬ st.D t = true; rw [hD]; decide)]; exact if_pos (show t.val < t.val + 1 by omega)
  have e6 : pieceR X c st (srcH t) = iprop(pP X c keepS (srcH t) ∗ bigSep Finset.univ (lentR X c st (srcH t))) := by unfold pieceR; rw [if_pos hB]
  have e7 : pieceR X c (st.start t) (srcH t) = iprop(pP X c keepS (srcH t) ∗ bigSep Finset.univ (lentR X c (st.start t) (srcH t))) := by
    unfold pieceR; rw [if_pos (show (st.start t).B _ = true from hB)]
  have e8 : lentR X c st (srcH t) (dir t) = sendPay X c t := by
    unfold lentR; rw [if_neg (by rw [hU]; decide)]; rfl
  have e9 : lentR X c (st.start t) (srcH t) (dir t) = iprop(emp) := by unfold lentR; rw [if_pos (by simp [St.start])]
  rw [start_op]
  unfold holds known
  rw [hn]
  iintro ⟨⟨#HI, -⟩, HS, HR, HP, ⟨%W, HO⟩⟩ Hk
  ihave HS := (bigSep_univ_update t e1) $$ HS
  ihave HP := (bigSep_univ_update (srcH t) e2) $$ HP
  rw [e4, e5, e6, e7]
  icases HS with ⟨HS, HSk⟩
  icases HP with ⟨⟨HP, HL⟩, HPk⟩
  ihave HL := (bigSep_univ_update (dir t) e3) $$ HL
  rw [e8, e9]
  icases HL with ⟨HL, HLk⟩
  unfold fresh barItem
  icases HS with ⟨HtS, HtR, Hat, #HrS, ⟨⟨%fd, Hd⟩, #HrR⟩⟩
  ihave #HI1 := (inv_at X κ (send_mem c t)) $$ HI
  ihave #HI2 := (inv_at X κ (recv_mem (toward (dir t) c) t)) $$ HI
  iapply (wp_sendOf X κ c k Q t fd W) $$ [HL Hd HO HtS HtR]
  · isplitr; · iexact HI1
    isplitr; · iexact HI2
    isplitl [HL]; · iexact HL
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HcS Hat HSk]
  · iapply HSk; unfold going; isplitl [HcS]; · iexact HcS
    iexact Hat
  isplitl [HR]; · iexact HR
  isplitl [HP HLk HPk]
  · iapply HPk; isplitl [HP]; · iexact HP
    iapply HLk; iempintro
  iexists W; iexact HO

set_option maxHeartbeats 1600000 in
theorem wp_recv (Q : α → sProp 𝕄) (t : T) (h : st.okRecv t = true) :
    iprop(known X κ ∗ holds X c st) ⊢ iprop((holds X c (st.recv t) -∗ wpc (k ⟨⟩) Q) -∗ wpc (Act.run (tgt c) (.recv t) >>= k) Q) := by
  unfold St.okRecv at h
  simp only [Bool.and_eq_true, decide_eq_true_eq, Bool.not_eq_true'] at h
  obtain ⟨hn, hR, hB, hU⟩ := h
  have e1 : ∀ u, u ≠ t → recvR (F := F) c (st.recv t) u = recvR c st u := fun u hu => by
    unfold recvR; simp [St.recv, hu]
  have e2 : ∀ h, h ≠ dstH t → pieceR X c (st.recv t) h = pieceR X c st h := fun h hh => by
    unfold pieceR lentR; simp only [St.recv]; simp [hh]; rfl
  have e4 : recvR (F := F) c st t = iprop(cred (tallyAt (recvCell c t) () N) ∗ atPos ER (recvCell c t) 0 ∅ 0) := by
    unfold recvR; rw [if_neg (by rw [hR]; decide)]
  have e5 : recvR (F := F) c (st.recv t) t = semVal (recvCell c t) 0 := by
    unfold recvR; rw [if_pos (by simp [St.recv])]
  have e6 : pieceR X c st (dstH t) = iprop(emp) := by unfold pieceR; rw [if_neg (by rw [hB]; decide)]
  have e7 : pieceR X c (st.recv t) (dstH t) = iprop(pP X c keepS (dstH t) ∗ bigSep Finset.univ fun d => pP X c (tokS d) (dstH t)) := by
    unfold pieceR; rw [if_pos (by simp [St.recv])]
    congr 1; refine bigSep_congr fun d _ => ?_
    unfold lentR; rw [if_neg (by show ¬ st.U _ _ = true; rw [hU]; decide)]
  have hown : isOwn (dstS t) = false := by
    cases hb : isOwn (dstS t) with
    | false => rfl
    | true => exact absurd ((isOwn_iff _).mp hb) (dst_ne t)
  rw [recv_op]
  unfold holds known
  iintro ⟨⟨#HI, #Hlev⟩, HS, HR, HP, ⟨%W, HO⟩⟩ Hk
  ihave HR := (bigSep_univ_update t e1) $$ HR
  ihave HP := (bigSep_univ_update (dstH t) e2) $$ HP
  rw [e4, e5, e6, e7]
  icases HR with ⟨⟨Hc, Hat⟩, HRk⟩
  icases HP with ⟨-, HPk⟩
  ihave #HI1 := (inv_at X κ (recv_mem c t)) $$ HI
  iapply (wp_recvOf X κ c k Q t st.n hn W) $$ [Hc HO Hat]
  · isplitr; · iexact HI1
    isplitr; · iexact Hlev
    isplitl [Hc]; · iexact Hc
    isplitl [HO]; · iexact HO
    iexact Hat
  iintro ⟨HO, Hat, Hpay⟩
  ihave Hp := (Entails.of_eq (show recvPay X c t = pieceP X c fullShare (isOwn (dstS t)) (dstS t) (part t) from (pieceP_false X c fullShare (dstS t) (part t) hown).symm)) $$ Hpay
  ihave Hp := (pieceP_split X c (isOwn (dstS t)) (dstS t) (part t)) $$ Hp
  iapply (fupd_wp frame (wpE (defs₀ (F := F)) 𝒱₀ (c : Thread nD τ) none) Set.univ _ _)
  imod (close X (κ (recvCell c t)) (recvCell c t)) $$ [Hat] with Hv
  · isplitr; · iexact HI1
    iexact Hat
  imodintro
  iapply Hk
  isplitl [HS]; · iexact HS
  isplitl [Hv HRk]; · iapply HRk; iexact Hv
  isplitl [Hp HPk]; · iapply HPk; iexact Hp
  iexists _; iexact HO

set_option maxHeartbeats 1600000 in
theorem wp_sentStep (Q : α → sProp 𝕄) (t : T) (h : st.okSent t = true) :
    iprop(known X κ ∗ holds X c st) ⊢ iprop((holds X c (st.sent t) -∗ wpc (k ⟨⟩) Q) -∗ wpc (sent t >>= k) Q) := by
  unfold St.okSent at h
  simp only [Bool.and_eq_true, decide_eq_true_eq, Bool.not_eq_true'] at h
  obtain ⟨hn, hD, hB, hU⟩ := h
  have e1 : ∀ u, u ≠ t → sendR (F := F) c (st.sent t) u = sendR c st u := fun u hu => by
    unfold sendR; simp [St.sent, hu]
  have e2 : ∀ h, h ≠ srcH t → pieceR X c (st.sent t) h = pieceR X c st h := fun h hh => by
    unfold pieceR lentR; simp only [St.sent]; simp [hh]
  have e3 : ∀ d, d ≠ dir t → lentR X c (st.sent t) (srcH t) d = lentR X c st (srcH t) d := fun d hd => by
    unfold lentR; simp [St.sent, hd]
  have e4 : sendR (F := F) c st t = going c t := by unfold sendR; rw [if_neg (by rw [hD]; decide), if_pos (by have := t.isLt; omega)]
  have e5 : sendR (F := F) c (st.sent t) t = semVal (sendCell c t) 0 := by unfold sendR; rw [if_pos (by simp [St.sent])]
  have e6 : pieceR X c st (srcH t) = iprop(pP X c keepS (srcH t) ∗ bigSep Finset.univ (lentR X c st (srcH t))) := by unfold pieceR; rw [if_pos hB]
  have e7 : pieceR X c (st.sent t) (srcH t) = iprop(pP X c keepS (srcH t) ∗ bigSep Finset.univ (lentR X c (st.sent t) (srcH t))) := by
    unfold pieceR; rw [if_pos (show (st.sent t).B _ = true from hB)]
  have e8 : lentR X c st (srcH t) (dir t) = iprop(emp) := by unfold lentR; rw [if_pos hU]
  have e9 : lentR X c (st.sent t) (srcH t) (dir t) = sendPay X c t := by
    unfold lentR; rw [if_neg (by simp [St.sent])]; rfl
  rw [sent_op]
  unfold holds known
  rw [show (st.sent t).n = 30 from hn, hn]
  iintro ⟨⟨#HI, -⟩, HS, HR, HP, ⟨%W, HO⟩⟩ Hk
  ihave HS := (bigSep_univ_update t e1) $$ HS
  ihave HP := (bigSep_univ_update (srcH t) e2) $$ HP
  rw [e4, e5, e6, e7]
  icases HS with ⟨HS, HSk⟩
  icases HP with ⟨⟨HP, HL⟩, HPk⟩
  ihave HL := (bigSep_univ_update (dir t) e3) $$ HL
  rw [e8, e9]
  icases HL with ⟨-, HLk⟩
  unfold going
  icases HS with ⟨Hc, Hat⟩
  ihave #HI1 := (inv_at X κ (send_mem c t)) $$ HI
  iapply (wp_sentOf X κ c k Q t W) $$ [Hc HO Hat]
  · isplitr; · iexact HI1
    isplitl [Hc]; · iexact Hc
    isplitl [HO]; · iexact HO
    iexact Hat
  iintro ⟨HO, Hat, Hp⟩
  iapply (fupd_wp frame (wpE (defs₀ (F := F)) 𝒱₀ (c : Thread nD τ) none) Set.univ _ _)
  imod (close X (κ (sendCell c t)) (sendCell c t)) $$ [Hat] with Hv
  · isplitr; · iexact HI1
    iexact Hat
  imodintro
  iapply Hk
  isplitl [Hv HSk]; · iapply HSk; iexact Hv
  isplitl [HR]; · iexact HR
  isplitl [HP HLk HPk Hp]
  · iapply HPk; isplitl [HP]; · iexact HP
    iapply HLk; iexact Hp
  iexists _; iexact HO

/-! ## A pass among them -/

/-- The contents a pass works on. -/
abbrev gath : CG F := KV X c

theorem piece_slot (s : Fin 16) (p : Fin 2) (hs : isOwn s = false) : (pP X c keepS (s, p) : sProp 𝕄) = halfP c keepS (KV X c) s p :=
  pieceP_false X c keepS s p hs

/-- The two pieces of a slot, lent out of what the device holds. -/
theorem lend (s : Fin 16) (h : st.okPass s = true) :
    holds X c st ⊢ iprop(slotP c keepS (KV X c) s ∗ (slotP c keepS (KV X c) s -∗ holds X c st)) := by
  unfold St.okPass at h
  simp only [Bool.and_eq_true, Bool.not_eq_true'] at h
  obtain ⟨hs, h0, h1⟩ := h
  have e : ∀ p, st.B (s, p) = true → pieceR X c st (s, p) = iprop(halfP c keepS (KV X c) s p ∗ bigSep Finset.univ (lentR X c st (s, p))) := fun p hp => by
    unfold pieceR; rw [if_pos hp, piece_slot X c s p hs]
  have e' : bigSep Finset.univ (fun p => pieceR X c st (s, p)) = iprop(pieceR X c st (s, 0) ∗ pieceR X c st (s, 1)) := bigSep_fin_two _
  unfold holds
  rw [bigSep_univ_prod]
  iintro ⟨HS, HR, HP, HO⟩
  ihave HP := (bigSep_univ_update s (Ψ := fun s => bigSep Finset.univ fun p => pieceR X c st (s, p)) (fun _ _ => rfl)) $$ HP
  rw [e', e 0 h0, e 1 h1]
  icases HP with ⟨⟨⟨H0, L0⟩, ⟨H1, L1⟩⟩, HPk⟩
  isplitl [H0 H1]
  · isplitl [H0]; · iexact H0
    iexact H1
  iintro ⟨H0, H1⟩
  isplitl [HS]; · iexact HS
  isplitl [HR]; · iexact HR
  isplitr [HO]
  · iapply HPk
    isplitl [H0 L0]
    · isplitl [H0]; · iexact H0
      iexact L0
    isplitl [H1]; · iexact H1
    iexact L1
  iexact HO

/-- What a list of actions leaves in the running values. -/
def accActs (Qc : CQ F) (G : CG F) : List Act → Acc F → Acc F
  | [], S => S
  | .pass s :: l, S => accActs Qc G l (nextOf Qc G s S)
  | .start _ :: l, S => accActs Qc G l S
  | .recv _ :: l, S => accActs Qc G l S

/-- A whole list of actions. -/
theorem wp_acts (Q : α → sProp 𝕄) (Qc : CQ F) (p : P F α) : ∀ (l : List Act) (st : St) (S : Acc F) (_ : okActs l st = true),
    iprop(known X κ ∗ holds X c st ∗ pt c cc0_stg0_0 Qc ∗ accP c S)
      ⊢ iprop(((holds X c (runSt l st) ∗ pt c cc0_stg0_0 Qc ∗ accP c (accActs Qc (KV X c) l S)) -∗ wpc p Q) -∗ wpc (runActs (tgt c) l p) Q)
  | [], st, S, _ => by
    iintro ⟨-, H⟩ Hk
    iapply Hk; iexact H
  | .start t :: l, st, S, h => by
    obtain ⟨h1, h2⟩ := Bool.and_eq_true_iff.mp h
    iintro ⟨#HI, HH, HQ⟩ Hk
    iapply (wp_start X κ c st (fun _ => runActs (tgt c) l p) Q t h1) $$ [HH]
    · isplitr; · iexact HI
      iexact HH
    iintro HH
    iapply (wp_acts Q Qc p l (st.start t) S h2) $$ [HH HQ]
    · isplitr; · iexact HI
      isplitl [HH]; · iexact HH
      iexact HQ
    iexact Hk
  | .recv t :: l, st, S, h => by
    obtain ⟨h1, h2⟩ := Bool.and_eq_true_iff.mp h
    iintro ⟨#HI, HH, HQ⟩ Hk
    iapply (wp_recv X κ c st (fun _ => runActs (tgt c) l p) Q t h1) $$ [HH]
    · isplitr; · iexact HI
      iexact HH
    iintro HH
    iapply (wp_acts Q Qc p l (st.recv t) S h2) $$ [HH HQ]
    · isplitr; · iexact HI
      isplitl [HH]; · iexact HH
      iexact HQ
    iexact Hk
  | .pass s :: l, st, S, h => by
    obtain ⟨h1, h2⟩ := Bool.and_eq_true_iff.mp h
    iintro ⟨#HI, HH, HQ, HA⟩ Hk
    ihave HH := (lend X c st s h1) $$ HH
    icases HH with ⟨HG, HHk⟩
    iapply (wp_nextPass c keepS Qc (KV X c) s S (fun _ => runActs (tgt c) l p) Q) $$ [HG HQ HA]
    · unfold passI
      isplitl [HQ]; · iexact HQ
      isplitl [HG]; · iexact HG
      iexact HA
    unfold passI
    iintro ⟨HQ, HG, HA⟩
    ihave HH := HHk $$ HG
    iapply (wp_acts Q Qc p l st (nextOf Qc (KV X c) s S) h2) $$ [HH HQ HA]
    · isplitr; · iexact HI
      isplitl [HH]; · iexact HH
      isplitl [HQ]; · iexact HQ
      iexact HA
    iexact Hk

/-- And all the waits for transfers to have been sent. -/
theorem wp_sents (Q : α → sProp 𝕄) (p : P F α) : ∀ (l : List T) (st : St) (_ : okSents l st = true),
    iprop(known X κ ∗ holds X c st) ⊢ iprop((holds X c (sentSt l st) -∗ wpc p Q) -∗ wpc (runSent l p) Q)
  | [], st, _ => by
    iintro ⟨-, H⟩ Hk
    iapply Hk; iexact H
  | t :: l, st, h => by
    obtain ⟨h1, h2⟩ := Bool.and_eq_true_iff.mp h
    iintro ⟨#HI, HH⟩ Hk
    iapply (wp_sentStep X κ c st (fun _ => runSent l p) Q t h1) $$ [HH]
    · isplitr; · iexact HI
      iexact HH
    iintro HH
    iapply (wp_sents Q p l (st.sent t) h2) $$ [HH]
    · isplitr; · iexact HI
      iexact HH
    iexact Hk

end Cert.KernelIdeal.Talk

end
-- ==== Proof.Deal.lean ====
/-
  How what a device brings and takes is dealt: its gathered array into halves, the halves over the transfers that fill them,
  the transfers over their directions; and the device's own block, in hand as two pieces and as a whole.
-/
module

public import proofs.«01_k».proof.Proof.Steps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem Idealize.ShloMosaic.Rounds
open Cert.KernelIdeal.Gen

variable {F : FTy → Type} [FloatOps F]

local notation "𝕄" => MT nD τ sig Unit (Elt F) ℕ UU ℕ

/-! ## Over the halves, and over the directions -/

def dstE : T ↪ H := ⟨dstH, by decide +kernel⟩

theorem univ_H : (Finset.univ : Finset H) = insert (0, 0) (insert (0, 1) (Finset.univ.map dstE)) := by decide +kernel

theorem bigSep_H (Φ : H → sProp 𝕄) : bigSep Finset.univ Φ = iprop(Φ (0, 0) ∗ Φ (0, 1) ∗ bigSep Finset.univ fun t => Φ (dstH t)) := by
  rw [univ_H, bigSep_insert (by decide +kernel), bigSep_insert (by decide +kernel), BI.bigSep_map]; rfl

theorem bigSep_four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, bigSep_insert (by decide), bigSep_insert (by decide),
    bigSep_insert (by decide), bigSep_singleton]
  rfl

abbrev along (d : Fin 4) : Finset T := Finset.univ.filter fun t => dir t = d

theorem bigSep_dirs (Φ : T → sProp 𝕄) : bigSep Finset.univ Φ = bigSep Finset.univ fun d => bigSep (along d) Φ := by
  rw [← BI.bigSep_biUnion_eq Finset.univ along Φ (fun d _ d' _ hne => Finset.disjoint_left.mpr fun t ht ht' =>
    hne ((Finset.mem_filter.mp ht).2.symm.trans (Finset.mem_filter.mp ht').2))]
  congr 1
  exact (Finset.eq_univ_iff_forall.mpr fun t => Finset.mem_biUnion.mpr ⟨dir t, Finset.mem_univ _, (Finset.mem_filter (s := Finset.univ) (p := fun u => dir u = dir t)).mpr ⟨Finset.mem_univ t, rfl⟩⟩).symm

variable (X : Blocks F) (c : Dev nD)

/-- What a device hands over with transfer `t`'s destination of its own. -/
def myItem (t : T) : sProp 𝕄 := iprop(hAny c (dstS t) (part t) ∗ reached ER (recvCell c t) 0)

theorem barPay_mine (d : Fin 4) : (barPay (toward d c) (back d) : sProp 𝕄) = bigSep (along (back d)) (myItem c) := by
  unfold barPay barItem myItem; rw [to_back]

theorem items_of_bar : (bigSep Finset.univ (barPay (F := F) c)) = bigSep Finset.univ fun t => barItem c (dir t) t := by
  rw [bigSep_dirs]
  refine bigSep_congr fun d _ => ?_
  unfold barPay
  exact bigSep_congr fun t ht => by rw [(Finset.mem_filter.mp ht).2]

/-! ## The gathered array -/

/-- A buffer held whole is held in the parts of a partition. -/
theorem pts_cover {ι : Type} [Fintype ι] (ℓ : Loc nD τ sig) (K : ι → Finset (Idx ℓ)) (hd : ∀ t t', t ≠ t' → Disjoint (K t) (K t')) (hc : ∀ i, ∃ t, i ∈ K t)
    (q : PosShare TreeShare) (f : Buf (Elt F) ℓ) : (ℓ ↦{q} f : sProp 𝕄) = bigSep Finset.univ fun t => ℓ ↦[K t]{q} f := by
  rw [← pointsTo_biUnion Finset.univ K (fun t _ t' _ => hd t t')]
  congr 1
  refine (Finset.eq_univ_iff_forall.mpr fun i => ?_).symm
  obtain ⟨t, ht⟩ := hc i
  exact Finset.mem_biUnion.mpr ⟨t, Finset.mem_univ t, ht⟩

theorem hset_all (i : S16x2x16x256x64.Idx) : ∃ h : H, i ∈ hset h := by
  obtain ⟨h, -, hi⟩ := Finset.mem_biUnion.mp (show i ∈ Finset.univ.biUnion hset by rw [hset_cover]; exact Finset.mem_univ i)
  exact ⟨h, hi⟩
theorem kvset_all (i : S2x16x256x64.Idx) : ∃ p : Fin 2, i ∈ kvset p := by
  obtain ⟨h, -, hi⟩ := Finset.mem_biUnion.mp (show i ∈ Finset.univ.biUnion kvset by rw [kvset_cover]; exact Finset.mem_univ i)
  exact ⟨h, hi⟩

theorem gather_eq (f : CG F) : (pt c cc0_scratch0 f : sProp 𝕄) = bigSep Finset.univ fun h : H => hPts c h.1 h.2 f :=
  pts_cover (gM.view.loc (c : Thread nD τ)) (fun h : H => hset h) (fun h h' hne => hset_disjoint (Set.mem_univ h) (Set.mem_univ h') hne) hset_all fullShare f

/-- Slot 0. -/
abbrev slot0 : Finset S16x2x16x256x64.Idx := hset (0, 0) ∪ hset (0, 1)
theorem slot0_disj : Disjoint (hset (0, 0)) (hset (0, 1)) := hset_disjoint (Set.mem_univ _) (Set.mem_univ _) (by decide)
theorem mem_slot0 {i : S16x2x16x256x64.Idx} : i ∈ slot0 ↔ (i 0).val = 0 := by
  have h2 : (i 2).val < 16 := (i 2).isLt
  rw [Finset.mem_union, mem_half, mem_half]
  constructor
  · rintro (h | h) <;> exact h.1
  · intro h
    by_cases h8 : (i 2).val < 8
    · exact .inl ⟨h, Nat.zero_le _, h8⟩
    · exact .inr ⟨h, show 8 * 1 ≤ (i 2).val by omega, show (i 2).val < 8 * 1 + 8 by omega⟩

theorem slot0_eq (f : CG F) : (gM.view.loc (c : Thread nD τ) ↦[slot0]{fullShare} f : sProp 𝕄) = iprop(hPts c 0 0 f ∗ hPts c 0 1 f) :=
  BI.equiv_iff.mp ⟨(pointsTo_union slot0_disj).1, (pointsTo_union slot0_disj).2⟩

/-- The whole array: slot 0, and the halves the transfers fill. -/
theorem gather_split (f : CG F) : (pt c cc0_scratch0 f : sProp 𝕄)
    = iprop((gM.view.loc (c : Thread nD τ) ↦[slot0]{fullShare} f) ∗ bigSep Finset.univ fun t => hPts c (dstS t) (part t) f) := by
  rw [gather_eq, bigSep_H, slot0_eq]
  exact BI.equiv_iff.mp ⟨BI.sep_assoc', BI.sep_assoc⟩

/-! ## The own block -/

theorem block_eq (q : PosShare TreeShare) : (kvM.view.loc (c : Thread nD τ) ↦{q} X c : sProp 𝕄) = iprop(pP X c q (0, 0) ∗ pP X c q (0, 1)) :=
  (pts_cover (kvM.view.loc (c : Thread nD τ)) (fun p : Fin 2 => kvset p) (fun h h' hne => kvset_disjoint (Set.mem_univ h) (Set.mem_univ h') hne) kvset_all q (X c)).trans
    (bigSep_fin_two _)

/-- The own block, lent out of what the device holds. -/
theorem lendOwn (st : St) (h0 : st.B (0, 0) = true) (h1 : st.B (0, 1) = true) :
    holds X c st ⊢ iprop((kvM.view.loc (c : Thread nD τ) ↦{keepS} X c) ∗ ((kvM.view.loc (c : Thread nD τ) ↦{keepS} X c) -∗ holds X c st)) := by
  have e : ∀ h, st.B h = true → pieceR X c st h = iprop(pP X c keepS h ∗ bigSep Finset.univ (lentR X c st h)) := fun h hp => by
    unfold pieceR; rw [if_pos hp]
  unfold holds
  rw [bigSep_H, e _ h0, e _ h1, block_eq]
  iintro ⟨HS, HR, ⟨⟨H0, L0⟩, ⟨H1, L1⟩, HP⟩, HO⟩
  isplitl [H0 H1]
  · isplitl [H0] <;> iassumption
  iintro ⟨H0, H1⟩
  isplitl [HS]; · iexact HS
  isplitl [HR]; · iexact HR
  isplitr [HO]
  · isplitl [H0 L0]
    · isplitl [H0]; · iexact H0
      iexact L0
    isplitl [H1 L1]
    · isplitl [H1]; · iexact H1
      iexact L1
    iexact HP
  iexact HO

/-! ## The start and the end -/

/-- After the barrier the device holds what `st₀` says, -/
theorem holds_start (W : Waits sig Unit) :
    iprop(bigSep Finset.univ (fresh c) ∗ (bigSep Finset.univ fun t => iprop(cred (tallyAt (recvCell c t) () N) ∗ atPos ER (recvCell c t) 0 ∅ 0))
      ∗ (kvM.view.loc (c : Thread nD τ) ↦{fullShare} X c) ∗ owes (c : Thread nD τ) (O 0 c) W) ⊢ holds X c st₀ := by
  have eS : sendR (F := F) c st₀ = fresh c := by
    funext t; unfold sendR; rw [if_neg (show ¬ st₀.D t = true from Bool.false_ne_true), if_neg (show ¬ t.val < st₀.n from Nat.not_lt_zero _)]
  have eR : recvR (F := F) c st₀ = fun t => iprop(cred (tallyAt (recvCell c t) () N) ∗ atPos ER (recvCell c t) 0 ∅ 0) := by
    funext t; unfold recvR; rw [if_neg (show ¬ st₀.R t = true from Bool.false_ne_true)]
  have eP : ∀ p, pieceR X c st₀ (0, p) = iprop(pP X c keepS (0, p) ∗ bigSep Finset.univ fun d => pP X c (tokS d) (0, p)) := fun p => by
    unfold pieceR; rw [if_pos (show st₀.B (0, p) = true from rfl)]
    congr 1
  have eQ : ∀ t, pieceR X c st₀ (dstH t) = iprop(emp) := fun t => by
    unfold pieceR
    have hown : ¬ st₀.B (dstH t) = true := fun hb => absurd ((isOwn_iff _).mp hb) (dst_ne t)
    rw [if_neg hown]
  unfold holds
  rw [eS, eR, block_eq, bigSep_H, eP, eP, bigSep_congr (fun t _ => eQ t), show (bigSep (Finset.univ : Finset T) fun _ => iprop(emp)) = (iprop(emp) : sProp 𝕄) from bigSep_emp_const _]
  iintro ⟨HS, HR, ⟨H0, H1⟩, HO⟩
  isplitl [HS]; · iexact HS
  isplitl [HR]; · iexact HR
  isplitr [HO]
  · isplitl [H0]; · iapply (pieceP_split X c (isOwn 0) 0 0); iexact H0
    isplitl [H1]; · iapply (pieceP_split X c (isOwn 0) 0 1); iexact H1
    iempintro
  iexists W; iexact HO

theorem piece_end (h : H) : pieceR X c stEnd h ⊢ pP X c fullShare h := by
  unfold pieceR lentR
  rw [if_pos (end_B h), bigSep_congr (fun d _ => if_neg (by rw [end_U]; decide))]
  exact pieceP_join X c (isOwn h.1) h.1 h.2

/-- and at the end every counter is back at zero, the block and the other slots are whole, and nothing is owed. -/
theorem holds_end :
    holds X c stEnd ⊢ iprop((bigSep Finset.univ fun t => semVal (sendCell c t) 0) ∗ (bigSep Finset.univ fun t => semVal (recvCell c t) 0)
      ∗ (kvM.view.loc (c : Thread nD τ) ↦{fullShare} X c) ∗ (bigSep Finset.univ fun t => hPts c (dstS t) (part t) (KV X c))
      ∗ ∃ W, owes (c : Thread nD τ) (0 : CellTallies nD τ sig Unit) W) := by
  have eS : sendR (F := F) c stEnd = fun t => semVal (sendCell c t) 0 := by
    funext t; unfold sendR; rw [if_pos (end_D t)]
  have eR : recvR (F := F) c stEnd = fun t => semVal (recvCell c t) 0 := by
    funext t; unfold recvR; rw [if_pos (end_R t)]
  have eQ : ∀ t, pieceR X c stEnd (dstH t) ⊢ hPts c (dstS t) (part t) (KV X c) := fun t =>
    (piece_end X c (dstH t)).trans (Entails.of_eq (pieceP_false X c fullShare _ _ (by
      cases hb : isOwn (dstS t) with
      | false => rfl
      | true => exact absurd ((isOwn_iff _).mp hb) (dst_ne t))))
  have eQs : (bigSep Finset.univ fun t => pieceR X c stEnd (dstH t)) ⊢ bigSep Finset.univ fun t => hPts c (dstS t) (part t) (KV X c) :=
    BI.bigSep_mono fun t _ => eQ t
  unfold holds
  rw [eS, eR, bigSep_H, block_eq, end_n, O_end]
  iintro ⟨HS, HR, ⟨H0, H1, HP⟩, HO⟩
  isplitl [HS]; · iexact HS
  isplitl [HR]; · iexact HR
  isplitl [H0 H1]
  · isplitl [H0]; · iapply (piece_end X c (0, 0)); iexact H0
    iapply (piece_end X c (0, 1)); iexact H1
  isplitl [HP]; · iapply eQs; iexact HP
  iexact HO

end Cert.KernelIdeal.Talk

end
-- ==== Proof.Run.lean ====
/-
  The whole body, run once from a symbolic device.
-/
module

public import proofs.«01_k».proof.Proof.Deal
public import Idealize.ShloMosaic.Lib.Pipeline.Value

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem Idealize.ShloMosaic.Rounds
open Cert.KernelIdeal.Gen

variable {F : FTy → Type} [FloatOps F]

local notation "𝕄" => MT nD τ sig Unit (Elt F) ℕ UU ℕ

variable (X : Blocks F) (κ : GSem nD τ sig → ℕ) (c : Dev nD) {α : Type}

local notation "wpc" => wp frame (wpE (defs₀ (F := F)) 𝒱₀ (c : Thread nD τ) none) Set.univ

/-! ## The opening -/

/-- With each neighbour: the duty at its barrier. -/
def barDuty (d : Fin 4) : sProp 𝕄 := iprop(dutyTok ER (barCell (toward d c)) 0 (back d) ∗ reached ER (barCell (toward d c)) 0)

theorem signal_op (e : Dev nD) (k : PUnit.{1} → P F α) :
    (semSignalWord e barS 1#32 >>= k : P F α) = .op (.semSignal (Dev.tc e) barS ((1 : ℕ) : ℤ)) k := rfl
theorem barWait_op (k : PUnit.{1} → P F α) : (semWaitWord barS 4#32 >>= k : P F α) = .op (.semWait barS ((4 : ℕ) : ℤ)) k := rfl

theorem wp_barSignal (Q : α → sProp 𝕄) (k : PUnit.{1} → P F α) (d : Fin 4) (O' : CellTallies nD τ sig Unit) (W : Waits sig Unit) :
    iprop(known X κ ∗ barDuty c d ∗ bigSep (along (back d)) (myItem c) ∗ owes (c : Thread nD τ) (O' + barDue d c) W)
      ⊢ iprop((owes (c : Thread nD τ) O' W -∗ wpc (k ⟨⟩) Q) -∗ wpc (semSignalWord (toward d c) barS 1#32 >>= k) Q) := by
  have h := Rounds.wp_signal 𝒱₀ ER (rd X) (c : Thread nD τ) none (dst := (toward d c : Thread nD τ)) (sem := barS) (r := 0) (d := back d) (κ := κ (barCell (toward d c)))
      (k := k) (Q := Q) (Λ := Λ₀) (defs := defs₀ (F := F)) (Γ := []) (Es := Set.univ) (W := W)
      (by rw [duties_bar]; exact Finset.mem_univ _) (amount_bar X (toward d c) (back d)) () (O₀ := O' + barDue d c) O' rfl
  rw [payload_bar, barPay_mine] at h
  rw [signal_op]
  unfold known barDuty
  iintro ⟨⟨#HI, -⟩, ⟨Ht, #Hr⟩, Hp, HO⟩ Hk
  ihave #HI1 := (inv_at X κ (bar_mem (toward d c))) $$ HI
  iapply h $$ [Ht Hp HO]
  · isplitr; · iexact HI1
    isplitl [HO]; · iexact HO
    isplitl [Ht]; · iexact Ht
    isplitl [Hp]; · iexact Hp
    iexact Hr
  iexact Hk

theorem wp_barWait (Q : α → sProp 𝕄) (k : PUnit.{1} → P F α) (W : Waits sig Unit) :
    iprop(known X κ ∗ cred (tallyAt (barCell c) () 4) ∗ owes (c : Thread nD τ) (O 0 c) W ∗ atPos ER (barCell c) 0 ∅ 0)
      ⊢ iprop(((owes (c : Thread nD τ) (O 0 c) (insert (SemLoc.reg barS, ()) W) ∗ atPos ER (barCell c) (0 + 1) ∅ 0 ∗ bigSep Finset.univ (barPay (F := F) c)) -∗ wpc (k ⟨⟩) Q)
        -∗ wpc (semWaitWord barS 4#32 >>= k) Q) := by
  have h := Rounds.wp_wait_rest_token 𝒱₀ ER (rd X) (c : Thread nD τ) none (κ := κ (barCell c)) (k := k) (Q := Q)
      (w := .semWait barS ((4 : ℕ) : ℤ)) (sm := .reg barS) (k' := 4) (Λ := Λ₀) (defs := defs₀ (F := F)) (Γ := []) (Es := Set.univ)
      (wpE_semWait_eq 𝒱₀ (c : Thread nD τ) none Set.univ) (Set.mem_univ _) () (O := O 0 c) (W := W) (R := 0) (m := 0) (T := ∅)
      ((Nat.zero_add 4).trans (expect_bar X c).symm)
  rw [rest_bar] at h
  rw [barWait_op]
  unfold known
  iintro ⟨⟨#HI, #Hlev⟩, Hc, HO, Hat⟩ Hk
  ihave #HI1 := (inv_at X κ (bar_mem c)) $$ HI
  iapply h $$ [Hc HO Hat]
  · isplitr; · iexact HI1
    isplitl [Hc]; · iexact Hc
    isplitl [HO]; · iexact HO
    isplitr; · iapply (mayWait_bar c); iexact Hlev
    iexact Hat
  iintro ⟨HO, Hat, -, Hp⟩
  iapply Hk
  isplitl [HO]; · iexact HO
  isplitl [Hat]; · iexact Hat
  iexact Hp

/-- The opening: each neighbour is given the pieces it may write, and the pieces the device may write come back. -/
theorem wp_opening (Q : α → sProp 𝕄) (p : P F α) (W : Waits sig Unit) :
    iprop(known X κ ∗ cred (tallyAt (barCell c) () 4) ∗ atPos ER (barCell c) 0 ∅ 0 ∗ bigSep Finset.univ (barDuty c) ∗ bigSep Finset.univ (myItem c)
        ∗ owes (c : Thread nD τ) (O₀ c) W)
      ⊢ iprop(((owes (c : Thread nD τ) (O 0 c) (insert (SemLoc.reg barS, ()) W) ∗ semVal (barCell c) 0 ∗ bigSep Finset.univ fun t => barItem c (dir t) t) -∗ wpc p Q)
        -∗ wpc (opening (nb c) p) Q) := by
  rw [nb_eq, bigSep_four, bigSep_dirs (myItem c), bigSep_four, ← items_of_bar]
  unfold opening O₀
  iintro ⟨#HI, Hc, Hat, ⟨D0, D1, D2, D3⟩, ⟨I0, I1, I2, I3⟩, HO⟩ Hk
  iapply (wp_barSignal X κ c Q _ 2 _ W) $$ [D2 I3 HO]
  · isplitr; · iexact HI
    isplitl [D2]; · iexact D2
    isplitl [I3]; · iexact I3
    iexact HO
  iintro HO
  iapply (wp_barSignal X κ c Q _ 3 _ W) $$ [D3 I2 HO]
  · isplitr; · iexact HI
    isplitl [D3]; · iexact D3
    isplitl [I2]; · iexact I2
    iexact HO
  iintro HO
  iapply (wp_barSignal X κ c Q _ 0 _ W) $$ [D0 I1 HO]
  · isplitr; · iexact HI
    isplitl [D0]; · iexact D0
    isplitl [I1]; · iexact I1
    iexact HO
  iintro HO
  iapply (wp_barSignal X κ c Q _ 1 _ W) $$ [D1 I0 HO]
  · isplitr; · iexact HI
    isplitl [D1]; · iexact D1
    isplitl [I0]; · iexact I0
    iexact HO
  iintro HO
  iapply (wp_barWait X κ c Q _ W) $$ [Hc HO Hat]
  · isplitr; · iexact HI
    isplitl [Hc]; · iexact Hc
    isplitl [HO]; · iexact HO
    iexact Hat
  iintro ⟨HO, Hat, Hp⟩
  iapply (fupd_wp frame (wpE (defs₀ (F := F)) 𝒱₀ (c : Thread nD τ) none) Set.univ _ _)
  unfold known
  icases HI with ⟨#HI, -⟩
  ihave #HI1 := (inv_at X κ (bar_mem c)) $$ HI
  imod (close X (κ (barCell c)) (barCell c)) $$ [Hat] with Hv
  · isplitr; · iexact HI1
    iexact Hat
  imodintro
  iapply Hk
  isplitl [HO]; · iexact HO
  isplitl [Hv]; · iexact Hv
  iexact Hp

/-! ## The copy of the own block -/

abbrev rKV : Rect S2x16x256x64 := Rect.unit (s := S2x16x256x64) ![0, 0, 0, 0] S2x16x256x64.size inb_S2x16x256x64_S2x16x256x64_0_0_0_0
abbrev rG0 : Rect S16x2x16x256x64 := Rect.unit (s := S16x2x16x256x64) ![0, 0, 0, 0, 0] S1x2x16x256x64.size inb_S16x2x16x256x64_S1x2x16x256x64_0_0_0_0_0

theorem rG0_set : (gM.access rG0).set = slot0 := by
  rw [show (gM.access rG0).set = rG0.set from View.set_slice_whole _ _]
  ext i
  rw [mem_slot0, Rect.mem_set_unit]
  constructor
  · intro h
    have h0 : (i 0).val < 0 + 1 := (h 0).2
    omega
  · intro h0 a
    have i1 : (i 1).val < 2 := (i 1).isLt
    have i2 : (i 2).val < 16 := (i 2).isLt
    have i3 : (i 3).val < 256 := (i 3).isLt
    have i4 : (i 4).val < 64 := (i 4).isLt
    match a with
    | 0 => exact ⟨Nat.zero_le _, show (i 0).val < 0 + 1 by omega⟩
    | 1 => exact ⟨Nat.zero_le _, show (i 1).val < 0 + 2 by omega⟩
    | 2 => exact ⟨Nat.zero_le _, show (i 2).val < 0 + 16 by omega⟩
    | 3 => exact ⟨Nat.zero_le _, show (i 3).val < 0 + 256 by omega⟩
    | 4 => exact ⟨Nat.zero_le _, show (i 4).val < 0 + 64 by omega⟩

/-- What the copy stores, from the block it reads. -/
abbrev copied (x : Vec F S2x16x256x64 .bf16) : Vec F S1x2x16x256x64 .bf16 :=
  shapeCast S1x2x16x256x64 (shapeCast S2x16x256x64 x shapeCasts_S2x16x256x64_S2x16x256x64) shapeCasts_S2x16x256x64_S1x2x16x256x64

/-- Where the copy puts an element. -/
abbrev g0Emb (j : S1x2x16x256x64.Idx) : S16x2x16x256x64.Idx := (gM.access rG0).emb j
theorem g0Emb_zero (j : S1x2x16x256x64.Idx) : g0Emb j 0 = (0 : Fin 16) := Fin.ext (by
  have hj : (j 0).val < 1 := (j 0).isLt
  show 0 + 1 * (j 0).val = 0
  omega)
theorem tl_g0Emb (j : S1x2x16x256x64.Idx) : tl (g0Emb j) = (kvM.access rKV).emb (fun a => j a.succ : S2x16x256x64.Idx) := by
  funext a
  apply Fin.ext
  match a with
  | 0 => rfl
  | 1 => rfl
  | 2 => rfl
  | 3 => rfl
theorem copied_apply (x : Vec F S2x16x256x64 .bf16) (j : S1x2x16x256x64.Idx) : copied x j = x (fun a => j a.succ) := by
  unfold copied
  rw [shapeCast_self]
  exact shapeCast_addUnit_apply (d := S2x16x256x64.size) _ _ j

/-- The copy fills slot 0 with what it is for. -/
theorem copied_eq (f : CG F) : ∀ i ∈ slot0,
    (gM.access rG0).write (Elt F) f (copied ((kvM.access rKV).read (Elt F) (X c))) Finset.univ i = KV X c i := by
  intro i hi
  rw [← rG0_set] at hi
  obtain ⟨j, -, rfl⟩ := Finset.mem_map.mp hi
  have h : copied ((kvM.access rKV).read (Elt F) (X c)) j = KV X c (g0Emb j) := by
    rw [copied_apply]
    unfold KV
    rw [g0Emb_zero, own_zero, tl_g0Emb]
    rfl
  exact (View.write_emb_of_mem (v := gM.access rG0) f (copied ((kvM.access rKV).read (Elt F) (X c))) (Finset.mem_univ j)).trans h

theorem wp_ownCopy (Q : α → sProp 𝕄) (p : P F α) (f : CG F) :
    iprop((kvM.view.loc (c : Thread nD τ) ↦{keepS} X c) ∗ (gM.view.loc (c : Thread nD τ) ↦[slot0]{fullShare} f))
      ⊢ iprop(((kvM.view.loc (c : Thread nD τ) ↦{keepS} X c) -∗ (gM.view.loc (c : Thread nD τ) ↦[slot0]{fullShare} KV X c) -∗ wpc p Q) -∗ wpc (ownCopy p) Q) := by
  unfold ownCopy
  iintro ⟨Hx, Hg⟩ Hk
  iapply (wp_load_rect (m := kvM) (r := rKV) (hl := View.loadsAt_vmem h_S2x16x256x64) (Λ := Λ₀) (defs := defs₀ (F := F)) (Γ := []) 𝒱₀ (c : Thread nD τ) none Set.univ
    (Q := Q) (S := Finset.univ) (q := keepS) (f := X c) (Finset.subset_univ _)) $$ Hx
  iintro Hx
  iapply (wp_load_rect (m := gM) (r := rG0) (hl := View.loadsAt_vmem h_S1x2x16x256x64) (Λ := Λ₀) (defs := defs₀ (F := F)) (Γ := []) 𝒱₀ (c : Thread nD τ) none Set.univ
    (Q := Q) (S := slot0) (q := fullShare) (f := f) (subset_of_eq rG0_set)) $$ Hg
  iintro Hg
  iapply (wp_store (m := gM) (r := rG0) (w := copied ((kvM.access rKV).read (Elt F) (X c))) (Mk := Finset.univ) (Λ := Λ₀) (defs := defs₀ (F := F)) (Γ := []) 𝒱₀ (c : Thread nD τ) none Set.univ
    (Q := Q) (S := slot0) (f := f) (subset_of_eq rG0_set)) $$ Hg
  iintro Hg
  ihave Hg := (Entails.of_eq (pointsTo_congr (copied_eq X c f))) $$ Hg
  iapply Hk $$ Hx
  iexact Hg

/-! ## The body -/

/-- With every transfer, to begin with. -/
def ticket (t : T) : sProp 𝕄 :=
  iprop(dutyTok ER (sendCell c t) 0 0 ∗ dutyTok ER (recvCell (toward (dir t) c) t) 0 0 ∗ atPos ER (sendCell c t) 0 ∅ 0 ∗ reached ER (sendCell c t) 0
    ∗ atPos ER (recvCell c t) 0 ∅ 0 ∗ reached ER (recvCell c t) 0 ∗ cred (tallyAt (recvCell c t) () N))

/-- What the body leaves in the running values, from what it finds there, -/
def accEnd (Qc : CQ F) (S : Acc F) : Acc F := accActs Qc (KV X c) acts (firstOf Qc (KV X c) S)
/-- and in the output. -/
def outEnd (Qc : CQ F) (S : Acc F) (o : CO F) : CO F := outOf (accEnd X c Qc S) [0, 1, 2, 3, 4, 5, 6, 7, 8, 9, 10, 11, 12, 13, 14, 15] o

def bodyPre (Qc : CQ F) (S : Acc F) (f : CG F) (o : CO F) (W : Waits sig Unit) : sProp 𝕄 :=
  iprop(known X κ ∗ cred (tallyAt (barCell c) () 4) ∗ atPos ER (barCell c) 0 ∅ 0 ∗ bigSep Finset.univ (barDuty c) ∗ bigSep Finset.univ (ticket c)
    ∗ pt c cc0_stg0_0 Qc ∗ pt c cc0_stg1_0 (X c) ∗ pt c cc0_stg2_0 o ∗ pt c cc0_scratch0 f ∗ accP c S ∗ owes (c : Thread nD τ) (O₀ c) W)
def bodyPost (Qc : CQ F) (S : Acc F) (o : CO F) : sProp 𝕄 :=
  iprop(semVal (barCell c) 0 ∗ (bigSep Finset.univ fun t => semVal (sendCell c t) 0) ∗ (bigSep Finset.univ fun t => semVal (recvCell c t) 0)
    ∗ pt c cc0_stg0_0 Qc ∗ pt c cc0_stg1_0 (X c) ∗ pt c cc0_stg2_0 (outEnd X c Qc S o) ∗ pt c cc0_scratch0 (KV X c) ∗ accP c (accEnd X c Qc S)
    ∗ ∃ W, owes (c : Thread nD τ) (0 : CellTallies nD τ sig Unit) W)

theorem mid_B0 : (runSt acts₀ st₀).B (0, 0) = true := by decide +kernel
theorem mid_B1 : (runSt acts₀ st₀).B (0, 1) = true := by decide +kernel

theorem end_eq : sentSt sents (runSt acts (runSt acts₀ st₀)) = stEnd := rfl

/-- The tickets, and what is sent through the barrier and what comes back. -/
theorem tickets_out : (bigSep Finset.univ (ticket (F := F) c)) ⊢
    iprop((bigSep Finset.univ fun t => iprop(dutyTok ER (sendCell c t) 0 0 ∗ dutyTok ER (recvCell (toward (dir t) c) t) 0 0 ∗ atPos ER (sendCell c t) 0 ∅ 0 ∗ reached ER (sendCell c t) 0))
      ∗ (bigSep Finset.univ fun t => reached ER (recvCell c t) 0)
      ∗ (bigSep Finset.univ fun t => iprop(cred (tallyAt (recvCell c t) () N) ∗ atPos ER (recvCell c t) 0 ∅ 0))) := by
  rw [← bigSep_sep', ← bigSep_sep']
  refine bigSep_mono fun t _ => ?_
  show (_ : sProp 𝕄) ⊢ _
  unfold ticket
  iintro ⟨H1, H2, H3, H4, H5, H6, H7⟩
  isplitl [H1 H2 H3 H4]
  · isplitl [H1]; · iexact H1
    isplitl [H2]; · iexact H2
    isplitl [H3]; · iexact H3
    iexact H4
  isplitl [H6]; · iexact H6
  isplitl [H7]; · iexact H7
  iexact H5

theorem items_in (f : CG F) : iprop((bigSep Finset.univ fun t => hPts c (dstS t) (part t) f) ∗ bigSep Finset.univ fun t => reached ER (recvCell c t) 0)
    ⊢ (bigSep Finset.univ (myItem c) : sProp 𝕄) := by
  rw [← bigSep_sep']
  refine bigSep_mono fun t _ => ?_
  show (_ : sProp 𝕄) ⊢ _
  unfold myItem
  iintro ⟨H1, H2⟩
  isplitl [H1]; · iexists f; iexact H1
  iexact H2

theorem fresh_in : iprop((bigSep Finset.univ fun t => iprop(dutyTok ER (sendCell c t) 0 0 ∗ dutyTok ER (recvCell (toward (dir t) c) t) 0 0 ∗ atPos ER (sendCell c t) 0 ∅ 0 ∗ reached ER (sendCell c t) 0))
      ∗ bigSep Finset.univ fun t => barItem c (dir t) t) ⊢ (bigSep Finset.univ (fresh c) : sProp 𝕄) := by
  rw [← bigSep_sep']
  refine bigSep_mono fun t _ => ?_
  show (_ : sProp 𝕄) ⊢ _
  unfold fresh
  iintro ⟨⟨H1, H2, H3, H4⟩, H5⟩
  isplitl [H1]; · iexact H1
  isplitl [H2]; · iexact H2
  isplitl [H3]; · iexact H3
  isplitl [H4]; · iexact H4
  iexact H5

set_option maxHeartbeats 1600000 in
theorem talkRun (Qc : CQ F) (S : Acc F) (f : CG F) (o : CO F) (W : Waits sig Unit) (Kt : PUnit.{1} → sProp 𝕄) :
    iprop(bodyPre X κ c Qc S f o W ∗ (bodyPost X c Qc S o -∗ Kt ⟨⟩)) ⊢ wpc (body (F := F)) Kt := by
  rw [body_eq, wp_deviceId, show tg c = tgt c from funext fun t => tg_eq c t]
  unfold bodyPre whole
  iintro ⟨⟨#HI, Hc, Hat, HD, HT, HQ, HX, Ho, Hg, HA, HO⟩, Hk⟩
  ihave HT := (tickets_out c) $$ HT
  icases HT with ⟨HF, Hre, HR⟩
  ihave Hg := (Entails.of_eq (gather_split c f)) $$ Hg
  icases Hg with ⟨Hg0, Hg⟩
  ihave HM := (items_in c f) $$ [Hg Hre]
  · isplitl [Hg] <;> iassumption
  iapply (wp_opening X κ c Kt _ W) $$ [Hc Hat HD HM HO]
  · isplitr; · iexact HI
    isplitl [Hc]; · iexact Hc
    isplitl [Hat]; · iexact Hat
    isplitl [HD]; · iexact HD
    isplitl [HM]; · iexact HM
    iexact HO
  iintro ⟨HO, Hb, HB⟩
  ihave HF := (fresh_in c) $$ [HF HB]
  · isplitl [HF] <;> iassumption
  ihave HH := (holds_start X c (insert (SemLoc.reg barS, ()) W)) $$ [HF HR HX HO]
  · isplitl [HF]; · iexact HF
    isplitl [HR]; · iexact HR
    isplitl [HX]; · iexact HX
    iexact HO
  iapply (wp_acts X κ c Kt Qc _ acts₀ st₀ S ok_acts₀) $$ [HH HQ HA]
  · isplitr; · iexact HI
    isplitl [HH]; · iexact HH
    isplitl [HQ]; · iexact HQ
    iexact HA
  iintro ⟨HH, HQ, HA⟩
  ihave HH := (lendOwn X c (runSt acts₀ st₀) mid_B0 mid_B1) $$ HH
  icases HH with ⟨HX, HHk⟩
  iapply (wp_ownCopy X c Kt _ f) $$ [HX Hg0]
  · isplitl [HX] <;> iassumption
  iintro HX Hg0
  ihave HH := HHk $$ HX
  ihave Hg0 := (Entails.of_eq (slot0_eq c (KV X c))) $$ Hg0
  iapply (wp_firstPass c fullShare Qc (KV X c) S _ Kt) $$ [HQ Hg0 HA]
  · unfold passI
    isplitl [HQ]; · iexact HQ
    isplitl [Hg0]; · iexact Hg0
    iexact HA
  unfold passI
  iintro ⟨HQ, Hg0, HA⟩
  iapply (wp_acts X κ c Kt Qc _ acts (runSt acts₀ st₀) (firstOf Qc (KV X c) S) ok_acts) $$ [HH HQ HA]
  · isplitr; · iexact HI
    isplitl [HH]; · iexact HH
    isplitl [HQ]; · iexact HQ
    iexact HA
  iintro ⟨HH, HQ, HA⟩
  iapply (wp_runOut c (accEnd X c Qc S) [0, 1, 2, 3, 4, 5, 6, 7, 8, 9, 10, 11, 12, 13, 14, 15] o _ Kt) $$ [HA Ho]
  · isplitl [HA]; · iexact HA
    iexact Ho
  iintro HA Ho
  iapply (wp_sents X κ c Kt _ sents (runSt acts (runSt acts₀ st₀)) ok_sents) $$ [HH]
  · isplitr; · iexact HI
    iexact HH
  iintro HH
  ihave HH := (Entails.of_eq (congrArg (holds X c) end_eq)) $$ HH
  ihave HH := (holds_end X c) $$ HH
  icases HH with ⟨HS, HR, HX, Hg, HO⟩
  rw [Prog.pure_eq_ret, wp_ret]
  imodintro
  iapply Hk
  unfold bodyPost
  rw [gather_split, slot0_eq]
  isplitl [Hb]; · iexact Hb
  isplitl [HS]; · iexact HS
  isplitl [HR]; · iexact HR
  isplitl [HQ]; · iexact HQ
  isplitl [HX]; · iexact HX
  isplitl [Ho]; · iexact Ho
  isplitl [Hg0 Hg]
  · isplitl [Hg0]; · iexact Hg0
    iexact Hg
  isplitl [HA]; · iexact HA
  iexact HO

end Cert.KernelIdeal.Talk

end
-- ==== Proof.Read.lean ====
/-
  What the running values and the output hold, read head by head: nothing of what they held before is left.
-/
module

public import proofs.«01_k».proof.Proof.Run

@[expose] public section

noncomputable section

namespace Cert.KernelIdeal.Talk

open Idealize.ShloMosaic Idealize.ShloMosaic.TcCoe
open Cert.KernelIdeal.Gen

variable {F : FTy → Type} [FloatOps F]

/-! ## Reads after writes -/

theorem emb_mem {S : Shape} (R : Rect S) (x : R.shape.Idx) : R.emb x ∈ R.set :=
  R.toLoadRect.mem_set.mpr fun a => ⟨(x a).val, (x a).isLt, Rect.emb_apply R x a⟩

theorem access_write_ne {S : Shape} {e : EltTy} (M : Memref sig .tc .vmem S e) (R R' : Rect S) (h : Disjoint R.set R'.set)
    (f : M.view.ty.Contents (Elt F)) (w : R.shape.Idx → Elt F e) :
    (M.access R').read (Elt F) ((M.access R).write (Elt F) f w Finset.univ) = (M.access R').read (Elt F) f := by
  funext x
  refine congrArg (fun y => _root_.cast (congrArg (Elt F) (M.access R').elt_eq) y) (View.write_of_not_mem (v := M.access R) f w Finset.univ ?_)
  intro hm
  obtain ⟨y, -, hy⟩ := Finset.mem_map.mp hm
  have hxy : R.emb y = R'.emb x := M.view.emb.injective hy
  exact Finset.disjoint_left.mp h (emb_mem R y) (by rw [hxy]; exact emb_mem R' x)

theorem heads_disj {d : ℕ} {S : Shape} (b b' : Fin heads.trips) (hb : b ≠ b') {off off' size size' : Fin S.rank → ℕ} (inb) (inb') (a : Fin S.rank)
    (h : off a = hd b) (h' : off' a = hd b') (hs : size a = 1) (hs' : size' a = 1) :
    Disjoint (Rect.unit (s := S) off size inb).set (Rect.unit (s := S) off' size' inb').set := by
  rw [Finset.disjoint_left]
  intro i hi hi'
  have h1 := (Rect.mem_set_unit.mp hi) a
  have h2 := (Rect.mem_set_unit.mp hi') a
  rw [h, hs, hd_eq] at h1
  rw [h', hs', hd_eq] at h2
  exact hb (Fin.ext (by omega))

theorem R3_disj (b b' : Fin heads.trips) (hb : b ≠ b') : Disjoint (R3 b).set (R3 b').set := heads_disj (d := 0) b b' hb _ _ 0 rfl rfl rfl rfl
theorem R1_disj (b b' : Fin heads.trips) (hb : b ≠ b') : Disjoint (R1 b).set (R1 b').set := heads_disj (d := 0) b b' hb _ _ 0 rfl rfl rfl rfl

/-! ## A head's running values -/

@[ext] structure Row (F : FTy → Type) where
  a : Vec F S1x256x64 .f32
  m : Vec F S1x256x1 .f32
  l : Vec F S1x256x1 .f32

def rowAt (S : Acc F) (b : Fin heads.trips) : Row F := ⟨aAt S.a b, mAt S.m b, lAt S.l b⟩
def rowFirst (q : Vec F S1x256x64 .bf16) (k v : Vec F S1x1x1x256x64 .bf16) : Row F := ⟨firstA q k v, firstM q k, firstL q k⟩
def rowNext (q : Vec F S1x256x64 .bf16) (k v : Vec F S1x1x1x256x64 .bf16) (r : Row F) : Row F := ⟨nextA q k v r.m r.a, nextM q k r.m, nextL q k r.m r.l⟩

section At
variable (a : (cc0_scratch1 : Ref sig .tc).ty.Contents (Elt F)) (m : (cc0_scratch2 : Ref sig .tc).ty.Contents (Elt F))
  (l : (cc0_scratch3 : Ref sig .tc).ty.Contents (Elt F)) (b b' : Fin heads.trips) (h : b ≠ b')
  (wa : FVec F S1x256x64 .f32) (wm wl : FVec F S1x256x1 .f32)

theorem aAt_self : aAt ((aM.access (R3 b)).write (Elt F) a wa Finset.univ) b = wa := View.read_write_univ (v := aM.access (R3 b)) a wa
theorem mAt_self : mAt ((mM.access (R1 b)).write (Elt F) m wm Finset.univ) b = wm := View.read_write_univ (v := mM.access (R1 b)) m wm
theorem lAt_self : lAt ((lM.access (R1 b)).write (Elt F) l wl Finset.univ) b = wl := View.read_write_univ (v := lM.access (R1 b)) l wl
include h
theorem aAt_ne : aAt ((aM.access (R3 b)).write (Elt F) a wa Finset.univ) b' = aAt a b' := access_write_ne aM _ _ (R3_disj b b' h) a wa
theorem mAt_ne : mAt ((mM.access (R1 b)).write (Elt F) m wm Finset.univ) b' = mAt m b' := access_write_ne mM _ _ (R1_disj b b' h) m wm
theorem lAt_ne : lAt ((lM.access (R1 b)).write (Elt F) l wl Finset.univ) b' = lAt l b' := access_write_ne lM _ _ (R1_disj b b' h) l wl
end At

theorem first_self (Q : CQ F) (G : CG F) (b : Fin heads.trips) (S : Acc F) : rowAt (firstStep Q G b S) b = rowFirst (qAt Q b) (gAt G 0 0 b) (gAt G 0 1 b) := by
  unfold rowAt firstStep rowFirst
  dsimp only
  rw [aAt_self, mAt_self, lAt_self]
theorem next_self (Q : CQ F) (G : CG F) (s : Fin 16) (b : Fin heads.trips) (S : Acc F) :
    rowAt (nextStep Q G s b S) b = rowNext (qAt Q b) (gAt G s 0 b) (gAt G s 1 b) (rowAt S b) := by
  unfold rowAt nextStep rowNext
  dsimp only
  rw [aAt_self, mAt_self, lAt_self]
theorem first_ne (Q : CQ F) (G : CG F) (b b' : Fin heads.trips) (h : b ≠ b') (S : Acc F) : rowAt (firstStep Q G b S) b' = rowAt S b' := by
  unfold rowAt firstStep
  dsimp only
  rw [aAt_ne _ _ _ h, mAt_ne _ _ _ h, lAt_ne _ _ _ h]
theorem next_ne (Q : CQ F) (G : CG F) (s : Fin 16) (b b' : Fin heads.trips) (h : b ≠ b') (S : Acc F) : rowAt (nextStep Q G s b S) b' = rowAt S b' := by
  unfold rowAt nextStep
  dsimp only
  rw [aAt_ne _ _ _ h, mAt_ne _ _ _ h, lAt_ne _ _ _ h]

/-- After `k` trips the first `k` heads are done, and the others are as before. -/
theorem rowAt_trips (f : Fin heads.trips → Acc F → Acc F) (g : Fin heads.trips → Row F → Row F)
    (hs : ∀ b S, rowAt (f b S) b = g b (rowAt S b)) (hn : ∀ b b', b ≠ b' → ∀ S, rowAt (f b S) b' = rowAt S b') (S : Acc F) (b : Fin heads.trips) :
    ∀ k : ℕ, rowAt (trips f S k) b = if b.val < k then g b (rowAt S b) else rowAt S b
  | 0 => (if_neg (Nat.not_lt_zero _)).symm
  | k + 1 => by
    have ih := rowAt_trips f g hs hn S b k
    unfold trips
    by_cases hk : k < heads.trips
    · rw [dif_pos hk]
      by_cases hb : b.val = k
      · obtain rfl : b = ⟨k, hk⟩ := Fin.ext hb
        rw [hs, ih, if_neg (Nat.lt_irrefl k), if_pos (Nat.lt_succ_self k)]
      · rw [hn _ _ (fun h => hb (congrArg Fin.val h).symm), ih]
        by_cases h : b.val < k
        · rw [if_pos h, if_pos (by omega)]
        · rw [if_neg h, if_neg (by omega)]
    · have := b.isLt
      rw [dif_neg hk, ih, if_pos (by omega), if_pos (by omega)]

theorem rowAt_firstOf (Q : CQ F) (G : CG F) (S : Acc F) (b : Fin heads.trips) :
    rowAt (firstOf Q G S) b = rowFirst (qAt Q b) (gAt G 0 0 b) (gAt G 0 1 b) := by
  unfold firstOf
  rw [rowAt_trips (firstStep Q G) (fun b _ => rowFirst (qAt Q b) (gAt G 0 0 b) (gAt G 0 1 b)) (first_self Q G) (first_ne Q G), if_pos b.isLt]
theorem rowAt_nextOf (Q : CQ F) (G : CG F) (s : Fin 16) (S : Acc F) (b : Fin heads.trips) :
    rowAt (nextOf Q G s S) b = rowNext (qAt Q b) (gAt G s 0 b) (gAt G s 1 b) (rowAt S b) := by
  unfold nextOf
  rw [rowAt_trips (nextStep Q G s) (fun b => rowNext (qAt Q b) (gAt G s 0 b) (gAt G s 1 b)) (next_self Q G s) (next_ne Q G s), if_pos b.isLt]

/-- The slots in the order of the later passes. -/
def passes : List (Fin 16) := [12, 4, 8, 3, 1, 7, 5, 11, 9, 15, 13, 2, 6, 10, 14]

/-- The slots a list of actions passes over. -/
def slotsOf : List Act → List (Fin 16)
  | [] => []
  | .pass s :: l => s :: slotsOf l
  | .start _ :: l => slotsOf l
  | .recv _ :: l => slotsOf l
theorem slots_acts : slotsOf acts = passes := rfl

def rowPass (Q : CQ F) (G : CG F) (b : Fin heads.trips) (r : Row F) (s : Fin 16) : Row F := rowNext (qAt Q b) (gAt G s 0 b) (gAt G s 1 b) r
theorem rowAt_acts (Q : CQ F) (G : CG F) (b : Fin heads.trips) : ∀ (l : List Act) (S : Acc F),
    rowAt (accActs Q G l S) b = (slotsOf l).foldl (rowPass Q G b) (rowAt S b)
  | [], _ => rfl
  | .pass s :: l, S => by
    unfold accActs slotsOf
    rw [rowAt_acts Q G b l, rowAt_nextOf, List.foldl_cons]; rfl
  | .start _ :: l, S => rowAt_acts Q G b l S
  | .recv _ :: l, S => rowAt_acts Q G b l S

/-- A head's running values at the end. -/
def rowEnd (Q : CQ F) (G : CG F) (b : Fin heads.trips) : Row F :=
  passes.foldl (rowPass Q G b) (rowFirst (qAt Q b) (gAt G 0 0 b) (gAt G 0 1 b))
theorem rowAt_end (X : Blocks F) (c : Dev nD) (Q : CQ F) (S : Acc F) (b : Fin heads.trips) : rowAt (accEnd X c Q S) b = rowEnd Q (KV X c) b := by
  unfold accEnd rowEnd
  rw [rowAt_acts, slots_acts, rowAt_firstOf]

/-! ## The output -/

abbrev trip (b : Fin 16) : Fin heads.trips := b.cast heads_trips.symm
/-- An index of the output within its head. -/
def within (i : S16x256x64.Idx) : S1x256x64.Idx := fun | 0 => (⟨0, Nat.one_pos⟩ : Fin 1) | 1 => (i 1 : Fin 256) | 2 => (i 2 : Fin 64)
def outVal (Q : CQ F) (G : CG F) : CO F := fun i => quot (rowEnd Q G (trip (i 0))).a (rowEnd Q G (trip (i 0))).l (within i)

theorem R3_emb (b : Fin heads.trips) (i : S16x256x64.Idx) (h : (i 0).val = b.val) : (R3 b).emb (within i) = i := by
  funext a
  apply Fin.ext
  rw [Rect.emb_apply]
  match a with
  | 0 => exact show hd b + 1 * 0 = (i 0).val by rw [hd_eq, h]; omega
  | 1 => exact show 0 + 1 * (i 1).val = (i 1).val by omega
  | 2 => exact show 0 + 1 * (i 2).val = (i 2).val by omega
theorem R3_head (b : Fin heads.trips) (i : S16x256x64.Idx) (h : i ∈ (R3 b).set) : (i 0).val = b.val := by
  have h0 := (Rect.mem_set_unit.mp h) 0
  have h1 : hd b ≤ (i 0).val := h0.1
  have h2 : (i 0).val < hd b + 1 := h0.2
  rw [hd_eq] at h1 h2
  omega

theorem outStep_self (X : Blocks F) (c : Dev nD) (Q : CQ F) (S : Acc F) (b : Fin 16) (o : CO F) (i : S16x256x64.Idx) (h : i 0 = b) :
    outStep (accEnd X c Q S) b o i = outVal Q (KV X c) i := by
  subst h
  have e : (oM.access (R3 (trip (i 0)))).emb (within i) = i := R3_emb (trip (i 0)) i rfl
  have hr := rowAt_end X c Q S (trip (i 0))
  have h1 := View.write_emb_of_mem (v := oM.access (R3 (trip (i 0)))) o
    (quot (rowAt (accEnd X c Q S) (trip (i 0))).a (rowAt (accEnd X c Q S) (trip (i 0))).l) (Finset.mem_univ (within i))
  rw [e, hr] at h1
  unfold outStep outVal
  refine Eq.trans ?_ h1
  rw [← hr]; rfl
theorem outStep_ne (S : Acc F) (b : Fin 16) (o : CO F) (i : S16x256x64.Idx) (h : i 0 ≠ b) : outStep S b o i = o i := by
  refine View.write_of_not_mem (v := oM.access (R3 (trip b))) o _ Finset.univ fun hm => h (Fin.ext ?_)
  obtain ⟨y, -, hy⟩ := Finset.mem_map.mp hm
  exact R3_head (trip b) i (hy ▸ emb_mem (R3 (trip b)) y)

theorem outOf_apply (X : Blocks F) (c : Dev nD) (Q : CQ F) (S : Acc F) (i : S16x256x64.Idx) : ∀ (l : List (Fin 16)) (o : CO F),
    (i 0 ∈ l ∨ o i = outVal Q (KV X c) i) → outOf (accEnd X c Q S) l o i = outVal Q (KV X c) i
  | [], o, h => h.resolve_left (List.not_mem_nil)
  | b :: l, o, h => by
    refine outOf_apply X c Q S i l (outStep (accEnd X c Q S) b o) ?_
    by_cases hb : i 0 = b
    · exact .inr (outStep_self X c Q S b o i hb)
    · refine h.imp (fun hm => (List.mem_cons.mp hm).resolve_left hb) fun ho => (outStep_ne _ b o i hb).trans ho

theorem mem_all : ∀ b : Fin 16, b ∈ ([0, 1, 2, 3, 4, 5, 6, 7, 8, 9, 10, 11, 12, 13, 14, 15] : List (Fin 16)) := by decide

/-- The output does not depend on what the scratch buffers or the output held. -/
theorem outEnd_eq (X : Blocks F) (c : Dev nD) (Q : CQ F) (S : Acc F) (o : CO F) : outEnd X c Q S o = outVal Q (KV X c) :=
  funext fun i => outOf_apply X c Q S i _ o (.inl (mem_all _))

end Cert.KernelIdeal.Talk

end
-- ==== Proof.Region.lean ====
/-
  The kernel's region: its arrays and staging buffers around one run of the body, and the record of it that the run of the
  whole program takes.
-/
module

public import proofs.«01_k».proof.Proof.Read
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

/-! ## What rides to the region, and what enters it -/

/-- What a device holds for transfer `t` before the transfer's two counters are in hand. -/
def seed (c : Dev nD) (t : T) : sProp 𝕄 :=
  iprop(dutyTok ER (sendCell c t) 0 0 ∗ dutyTok ER (recvCell (toward (dir t) c) t) 0 0 ∗ openTok ER (sendCell c t) ∗ openTok ER (recvCell c t)
    ∗ cred (tallyAt (recvCell c t) () N))

def Tk (X : Blocks F) (c : Dev nD) : sProp 𝕄 :=
  iprop(∃ κ, invs X κ ∗ cred (tallyAt (barCell c) () 4) ∗ atPos ER (barCell c) 0 ∅ 0 ∗ bigSep Finset.univ (barDuty (F := F) c) ∗ bigSep Finset.univ (seed (F := F) c))
def Xk (X : Blocks F) (c : Dev nD) : sProp 𝕄 :=
  iprop(∃ κ, known X κ ∗ cred (tallyAt (barCell c) () 4) ∗ atPos ER (barCell c) 0 ∅ 0 ∗ bigSep Finset.univ (barDuty (F := F) c) ∗ bigSep Finset.univ (ticket (F := F) c))
def Yk (c : Dev nD) : sProp 𝕄 := semVal (barCell c) 0

theorem ownSems_eq (c : Dev nD) : (Pipeline.ownSems0 scSem c : sProp 𝕄)
    = iprop((bigSep Finset.univ fun t => semVal (sendCell c t) 0) ∗ bigSep Finset.univ fun t => semVal (recvCell c t) 0) :=
  BI.bigSep_univ_sum (fun k : T ⊕ T => (semVal ((c : Thread nD τ), scSem k) 0 : sProp 𝕄))

theorem open_one (X : Blocks F) (κ : GSem nD τ sig → ℕ) (c : Dev nD) (t : T) :
    iprop(invs X κ ∗ (seed c t ∗ (semVal (sendCell c t) 0 ∗ semVal (recvCell c t) 0))) ⊢ (|={Set.univ}=> ticket c t : sProp 𝕄) := by
  unfold seed ticket
  iintro ⟨#HI, ⟨Hd, Hr, Ho, Hp, Hc⟩, Hs, Hv⟩
  ihave #HIs := (inv_at X κ (send_mem c t)) $$ HI
  ihave #HIr := (inv_at X κ (recv_mem c t)) $$ HI
  imod (Rounds.cell_open ER (rd X) (g := sendCell c t) (Set.mem_univ (κ (sendCell c t)))) $$ [Ho Hs] with ⟨Has, #Hrs⟩
  · isplitr; · iexact HIs
    isplitl [Ho] <;> iassumption
  imod (Rounds.cell_open ER (rd X) (g := recvCell c t) (Set.mem_univ (κ (recvCell c t)))) $$ [Hp Hv] with ⟨Har, #Hrr⟩
  · isplitr; · iexact HIr
    isplitl [Hp] <;> iassumption
  imodintro
  isplitl [Hd]; · iexact Hd
  isplitl [Hr]; · iexact Hr
  isplitl [Has]; · iexact Has
  isplitr; · iexact Hrs
  isplitl [Har]; · iexact Har
  isplitr; · iexact Hrr
  iexact Hc

theorem open_all (X : Blocks F) (κ : GSem nD τ sig → ℕ) (c : Dev nD) :
    iprop(invs X κ ∗ bigSep Finset.univ (fun t => iprop(seed (F := F) c t ∗ (semVal (sendCell c t) 0 ∗ semVal (recvCell c t) 0))))
      ⊢ (|={Set.univ}=> bigSep Finset.univ (ticket (F := F) c) : sProp 𝕄) :=
  (bigSep_with_persistent (Ψ := fun t => (iprop(|={Set.univ}=> ticket (F := F) c t) : sProp 𝕄)) fun t _ => open_one X κ c t).trans
    (bigSep_fupd (Fr := frame) (E := Set.univ) Finset.univ (ticket (F := F) c))

theorem hopen (X : Blocks F) (c : Dev nD) : iprop(Tk X c ∗ Pipeline.ownSems0 scSem c ∗ levAts L lv) ⊢ (|={Set.univ}=> Xk X c : sProp 𝕄) := by
  rw [ownSems_eq]
  unfold Tk Xk known
  iintro ⟨⟨%κ, #HI, Hc, Hat, HD, HT⟩, ⟨Hs, Hv⟩, #Hlev⟩
  imod (open_all X κ c) $$ [HT Hs Hv] with HT
  · isplitr; · iexact HI
    rw [bigSep_sep', bigSep_sep']
    isplitl [HT]; · iexact HT
    isplitl [Hs] <;> iassumption
  imodintro
  iexists κ
  isplitr
  · isplitr; · iexact HI
    iexact Hlev
  isplitl [Hc]; · iexact Hc
  isplitl [Hat]; · iexact Hat
  isplitl [HD]; · iexact HD
  iexact HT

/-- The buffers the body works in, at contents not chosen. -/
def rest (c : Dev nD) : sProp 𝕄 :=
  iprop((∃ f, pt c cc0_scratch0 f) ∗ (∃ f, pt c cc0_scratch1 f) ∗ (∃ f, pt c cc0_scratch2 f) ∗ (∃ f, pt c cc0_scratch3 f))
def before (X : Blocks F) (c : Dev nD) : sProp 𝕄 := iprop(Xk X c ∗ rest c ∗ ∃ r, prngReg c r)
def afterwards (c : Dev nD) : sProp 𝕄 := iprop(Yk c ∗ Pipeline.ownSems0 scSem c ∗ rest c ∗ ∃ r, prngReg c r)

/-! ## The proof data: a query array and a block on every device -/

section Data

variable (Qs : Dev nD → CQ F) (X : Blocks F) (Os : Dev nD → CO F)

/-- What device `c`'s result array ends at. -/
def result (c : Dev nD) : CO F := outVal (Qs c) (KV X c)

def dat0 (c : Dev nD) : Dat τ (Elt F) Unit ℕ UU ℕ cfg0 c where
  A w := match w with
    | ⟨0, _⟩ => Qs c
    | ⟨1, _⟩ => X c
    | ⟨2, _⟩ => Os c
  after w _ := match w with
    | ⟨0, _⟩ => Qs c
    | ⟨1, _⟩ => X c
    | ⟨2, _⟩ => result Qs X c
  Φ t := match t with
    | ⟨0, _⟩ => before X c
    | ⟨_ + 1, _⟩ => afterwards c
  q _ := fullShare
  owed t := match t with
    | ⟨0, _⟩ => O₀ c
    | ⟨_ + 1, _⟩ => 0

/-- A fetch of a whole array brings the array. -/
theorem fetched_at (c : Dev nD) (w : Fin cfg0.W) (d) (j : (cfg0.win w).block.Idx)
    (hm : (cfg0.win w).moved (cfg0.grid.coords t0_0) j = true) (h0 : ∀ a, (cfg0.win w).index t0_0 a = 0) :
    ∃ y : ((cfg0.win w).xblock (cfg0.grid.coords t0_0)).Idx, (∀ a, (y a).val = (j a).val) ∧ (∀ a, (((cfg0.win w).rect t0_0).emb y a).val = (j a).val)
      ∧ (dat0 Qs X Os c).fetched w t0_0 d j = (dat0 Qs X Os c).blockOf w t0_0 y := by
  refine ⟨fun a => ⟨(j a).val, ((cfg0.win w).moved_iff _ j).mp hm a⟩, fun _ => rfl, fun a => ?_, ?_⟩
  · exact Pipeline.Window.rect_emb_val_of_index_zero _ _ _ (h0 a) _
  · unfold Dat.fetched Pipeline.Window.fill; rw [dif_pos hm]
theorem before_0 (c : Dev nD) (d) : (dat0 Qs X Os c).before 0 t0_0 d = Qs c := by
  unfold Dat.before
  rw [if_pos (by decide)]
  funext j
  obtain ⟨y, -, he, e⟩ := fetched_at Qs X Os c 0 d j (((cfg0.win 0).moved_iff _ j).mpr fun a => (j a).isLt) (by decide)
  exact e.trans (congrArg (Qs c) (funext fun a => Fin.ext (he a)))
theorem before_1 (c : Dev nD) (d) : (dat0 Qs X Os c).before 1 t0_0 d = X c := by
  unfold Dat.before
  rw [if_pos (by decide)]
  funext j
  obtain ⟨y, -, he, e⟩ := fetched_at Qs X Os c 1 d j (((cfg0.win 1).moved_iff _ j).mpr fun a => (j a).isLt) (by decide)
  exact e.trans (congrArg (X c) (funext fun a => Fin.ext (he a)))
/-- At the end the result array holds what the body left. -/
theorem final_2 (c : Dev nD) : (dat0 Qs X Os c).arrAt 2 cfg0.N = result Qs X c :=
  (dat0 Qs X Os c).arrAt_eq_of_after_last 2 t0_0 (by decide +kernel) (result Qs X c) fun j => rfl

theorem owned (c : Dev nD) (b : Ref sig .tc) (f : b.ty.Contents (Elt F)) :
    (owns (c : Thread nD τ) (Memref.whole b) fullShare f : sProp 𝕄) = pt c b f := owns_whole ..

theorem owesAt_in (c : Dev nD) (W : Waits sig Unit) : (owes (c : Thread nD τ) (O₀ c) W : sProp 𝕄) ⊢ (dat0 Qs X Os c).owesAt () 0 := by
  unfold Dat.owesAt Pipeline.owesWithin Dat.bound
  iintro HO; iexists W; isplitr; · ipureintro; exact fun _ _ => Or.inl trivial
  iexact HO

/-- The body between what the region hands it and what it takes back. -/
theorem body_ok (c : Dev nD) : BodyObligation (dat0 Qs X Os c) (defs₀ (F := F)) 𝒱₀ () Set.univ := fun t => by
  obtain rfl := fin_N0 t
  rw [bigSep_W0, bigSep_W0]
  rw [show (dat0 Qs X Os c).Φ t0_0.castSucc = before X c from rfl, show (dat0 Qs X Os c).Φ t0_0.succ = afterwards c from rfl]
  iintro ⟨HΦ, HO, ⟨%d0, H0⟩, ⟨%d1, H1⟩, ⟨%d2, H2⟩⟩
  ihave H0 := (Entails.of_eq ((congrArg _ (before_0 Qs X Os c d0)).trans (owned c cc0_stg0_0 (Qs c)))) $$ H0
  ihave H1 := (Entails.of_eq ((congrArg _ (before_1 Qs X Os c d1)).trans (owned c cc0_stg1_0 (X c)))) $$ H1
  ihave H2 := (Entails.of_eq (owned c cc0_stg2_0 ((dat0 Qs X Os c).before 2 t0_0 d2))) $$ H2
  unfold before afterwards Xk rest Dat.owesAt Pipeline.owesWithin
  icases HΦ with ⟨⟨%κ, HK, Hc, Hat, HD, HT⟩, ⟨⟨%fg, Hg⟩, ⟨%fa, Ha⟩, ⟨%fm, Hm⟩, ⟨%fl, Hl⟩⟩, Hp⟩
  icases HO with ⟨%W, -, HO⟩
  iapply (talkRun X κ c (Qs c) ⟨fa, fm, fl⟩ fg ((dat0 Qs X Os c).before 2 t0_0 d2) W _)
  isplitr [Hp]
  · unfold bodyPre accP
    isplitl [HK]; · iexact HK
    isplitl [Hc]; · iexact Hc
    isplitl [Hat]; · iexact Hat
    isplitl [HD]; · iexact HD
    isplitl [HT]; · iexact HT
    isplitl [H0]; · iexact H0
    isplitl [H1]; · iexact H1
    isplitl [H2]; · iexact H2
    isplitl [Hg]; · iexact Hg
    isplitl [Ha Hm Hl]
    · isplitl [Ha]; · iexact Ha
      isplitl [Hm] <;> iassumption
    iexact HO
  unfold bodyPost accP
  rw [outEnd_eq, ownSems_eq]
  iintro ⟨Hb, HS, HR, H0, H1, H2, Hg, ⟨Ha, Hm, Hl⟩, ⟨%W', HO⟩⟩
  isplitl [Hb HS HR Hg Ha Hm Hl Hp]
  · isplitl [Hb]; · unfold Yk; iexact Hb
    isplitl [HS HR]; · isplitl [HS] <;> iassumption
    isplitr [Hp]
    · isplitl [Hg]; · iexists _; iexact Hg
      isplitl [Ha]; · iexists _; iexact Ha
      isplitl [Hm]; · iexists _; iexact Hm
      iexists _; iexact Hl
    iexact Hp
  isplitl [HO]
  · iexists W'; isplitr; · ipureintro; exact fun _ _ => Or.inl trivial
    iexact HO
  isplitl [H0]; · iapply (Entails.of_eq (owned c cc0_stg0_0 (Qs c)).symm) $$ H0
  isplitl [H1]; · iapply (Entails.of_eq (owned c cc0_stg1_0 (X c)).symm) $$ H1
  iapply (Entails.of_eq (owned c cc0_stg2_0 (outVal (Qs c) (KV X c))).symm) $$ H2

end Data

end Cert.KernelIdeal.Talk

end
-- ==== Proof.Launch.lean ====
/-
  The run of the whole program: host operations, the region, host operations; what each device is dealt at launch, and
  what every final state holds.
-/
module

public import proofs.«01_k».proof.Proof.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The contents of the buffers along the run -/

abbrev V₀ (c : Dev nD) : Valuation τ sig (Elt F) := fun b => m (c, b)
/-- Once the operations before the kernel have run, -/
abbrev V₁ (c : Dev nD) : Valuation τ sig (Elt F) := StableHlo.after hostOps0 (V₀ m c)
/-- each device's queries and its block, as the kernel finds them, -/
abbrev Qs (c : Dev nD) : CQ F := V₁ m c (Proc.devRef .tc main_v4)
abbrev Xs : Blocks F := fun c => V₁ m c (Proc.devRef .tc main_v11)
abbrev Os (c : Dev nD) : CO F := V₁ m c (Proc.devRef .tc main_v12)
/-- once the kernel has run, -/
def V₂ (c : Dev nD) : Valuation τ sig (Elt F) := Function.update (V₁ m c) (Proc.devRef .tc main_v12) (result (Qs m) (Xs m) c)
/-- and at the end. -/
abbrev V₃ (c : Dev nD) : Valuation τ sig (Elt F) := StableHlo.after hostOps1 (V₂ m c)

theorem V₂_ne (c : Dev nD) {b : DevRef τ sig} (h : b ≠ Proc.devRef .tc main_v12) : V₂ m c b = V₁ m c b := Function.update_of_ne h ..
theorem V₂_out (c : Dev nD) : V₂ m c (Proc.devRef .tc main_v12) = result (Qs m) (Xs m) c := Function.update_self ..

theorem V₂_q (c : Dev nD) : V₂ m c (Proc.devRef .tc main_v4) = Qs m c := V₂_ne m c (StableHlo.devRef_ne_of_ne (by decide))
theorem V₂_kv (c : Dev nD) : V₂ m c (Proc.devRef .tc main_v11) = Xs m c := V₂_ne m c (StableHlo.devRef_ne_of_ne (by decide))

/-! ## The region's record -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | ⟨0, _⟩ => dat0 (Qs m) (Xs m) (Os m)
  | ⟨_ + 1, h⟩ => absurd h (Nat.not_lt.2 (Nat.le_add_left _ _))

abbrev bufs : Finset (DevRef τ sig) := Pipeline.ucRefs τ sig
abbrev arrs : Finset (DevRef τ sig) := Pipeline.arrRefs (τ := τ) spec0
theorem arrs_sub : arrs ⊆ bufs := Pipeline.arrRefs_sub_ucRefs spec0 launch0.win.arr_unscoped
theorem out_arr : (Proc.devRef .tc main_v12 : DevRef τ sig) ∈ arrs :=
  Finset.mem_map_of_mem _ (Finset.mem_image_of_mem (Pipeline.arrRef spec0) (Finset.mem_univ (2 : Fin 3)))

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 scSem := by decide +kernel

theorem stage_low : ∀ (w : Fin 3) (s : Fin (spec0 w).nbuf), lvOf (kindOf (.dma ((spec0 w).sem s))) = 0 := by decide +kernel

theorem cutD (c : Dev nD) (t : Fin (cfg0.N + 1)) (g : GSem nD τ sig) (i : Unit) (h : 0 < (dat0 (Qs m) (Xs m) (Os m) c).owed t g i) :
    i ∈ L g ∧ (0 : ℕ) < lv g i := by
  obtain ⟨_ | n, ht⟩ := t
  · rcases O₀_pos (show 0 < O₀ c g i from h) with ⟨u, rfl⟩ | ⟨d, rfl⟩
    · exact ⟨by rw [L_tc]; exact Finset.mem_singleton_self _, by rw [lv_recv]; omega⟩
    · exact ⟨by rw [L_tc]; exact Finset.mem_singleton_self _, Nat.one_pos⟩
  · exact absurd (show 0 < (0 : CellTallies nD τ sig Unit) g i from h) (Nat.lt_irrefl 0)

theorem rest_eq (c : Dev nD) : (Pipeline.scopedRest (Ix := Unit) (Name := ℕ) (U := UU) (Lvl := ℕ) (Val := Elt F) spec0 c : sProp 𝕄) = rest c := scopedRest0_eq c

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest spec0 c ∗ (∃ r, prngReg c r) ∗ StableHlo.held (c.tc : Thread nD τ) ∅ (V₁ m c) ∗ Xk (Xs m) c)
    ⊢ (before (Xs m) c : sProp 𝕄) := by
  rw [rest_eq]; unfold before
  iintro ⟨Hr, Hp, -, HX⟩
  isplitl [HX]; · iexact HX
  isplitl [Hr] <;> iassumption
theorem hout (c : Dev nD) : (afterwards c : sProp 𝕄)
    ⊢ iprop(Pipeline.scopedRest spec0 c ∗ (∃ r, prngReg c r) ∗ StableHlo.held (c.tc : Thread nD τ) ∅ (V₂ m c) ∗ Pipeline.ownSems0 scSem c ∗ Yk c) := by
  rw [rest_eq, held_none]; unfold afterwards
  iintro ⟨HY, Hs, Hr, Hp⟩
  isplitl [Hr]; · iexact Hr
  isplitl [Hp]; · iexact Hp
  isplitr; · iempintro
  isplitl [Hs] <;> iassumption

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 scSem own_facts
    ∅ (bufs \ arrs) (Finset.empty_subset _) kitP rfl (fun c => (body_ok (Qs m) (Xs m) (Os m) c).loose)
    (fun _ => 0) O₀ (fun c => (zero_add (O₀ c)).symm) (fun _ => rfl) (fun _ => rfl)
    (fun c => (dat0 (Qs m) (Xs m) (Os m) c).share_full fun _ => rfl)
    (V₁ m) (V₂ m) (fun c b hb => V₂_ne m c fun e => by
      rw [Finset.sdiff_empty, Finset.mem_sdiff] at hb
      exact hb.2 (e ▸ out_arr))
    (Tk (Xs m)) Yk (Xk (Xs m)) Yk (hopen (Xs m)) (hin m) (hout m)
    (fun c => by iintro H; imodintro; iexact H)
    (fun _ => 0)
    ⟨fun c w s => by rw [L_tc]; exact Finset.mem_singleton_self _, fun c w s => le_of_eq (stage_low w s), fun c t g i h => cutD m c t g i h⟩
    (fun _ => iprop(emp))
    (fun c w => match w with
      | ⟨0, _⟩ => rfl
      | ⟨1, _⟩ => rfl
      | ⟨2, _⟩ => rfl)
    (fun c w => match w with
      | ⟨0, _⟩ => ((dat0 (Qs m) (Xs m) (Os m) c).arrAt_in 0 rfl _).trans (V₂_q m c).symm
      | ⟨1, _⟩ => ((dat0 (Qs m) (Xs m) (Os m) c).arrAt_in 1 rfl _).trans (V₂_kv m c).symm
      | ⟨2, _⟩ => (final_2 (Qs m) (Xs m) (Os m) c).trans (V₂_out m c).symm)

/-! ## The segments -/

/-- What rides beside the buffers up to the region, -/
def R (c : Dev nD) : sProp 𝕄 := iprop(Tk (Xs m) c ∗ (∃ r, prngReg c r) ∗ ∃ W, owes (c : Thread nD τ) (O₀ c) W)
/-- and after it. -/
def R' (c : Dev nD) : sProp 𝕄 := iprop(Yk c ∗ ∃ W, owes (c : Thread nD τ) (0 : CellTallies nD τ sig Unit) W)

theorem sub0 : ∀ op ∈ (hostOps0 : List (HloOp τ sig (Elt F))), op.bufs ⊆ bufs := fun op h => Pipeline.sub_ucRefs op (List.forall_iff_forall_mem.mp hostOps0_sub op h)
theorem sub1 : ∀ op ∈ (hostOps1 : List (HloOp τ sig (Elt F))), op.bufs ⊆ bufs := fun op h => Pipeline.sub_ucRefs op (List.forall_iff_forall_mem.mp hostOps1_sub op h)

def seg0 : Pipeline.HostSeg (Name := ℕ) (U := UU) (pcfgs (F := F)) defs₀ 𝒱₀ L lv :=
  Pipeline.HostSeg.ofOps _ _ _ _ _ bufs hostOps0 sub0 (List.forall_iff_forall_mem.mp hostOps0_fresh) (V₀ m) (R m)
def seg1 : Pipeline.HostSeg (Name := ℕ) (U := UU) (pcfgs (F := F)) defs₀ 𝒱₀ L lv :=
  Pipeline.HostSeg.ofOps _ _ _ _ _ bufs hostOps1 sub1 (List.forall_iff_forall_mem.mp hostOps1_fresh) (V₂ m) R'

def segs : List (Pipeline.Seg (pcfgs (F := F)) adm (pdats m) () defs₀ 𝒱₀ L lv) := [.host (seg0 m), .region (reg m), .host (seg1 m)]

theorem main_run (c : Dev nD) : main (F := F) c = Pipeline.Seg.run (segs m) :=
  main_segs adm (pdats m) () 𝒱₀ L lv (seg0 m) (seg1 m) (reg m) rfl rfl c

theorem reg_pre (c : Dev nD) : iprop(StableHlo.held (c : Thread nD τ) bufs (V₁ m c) ∗ R m c) ⊢ (reg m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk (Xs m) c ∗ ∃ Wd, owes (c : Thread nD τ) (0 + O₀ c) Wd)
  rw [StableHlo.held_sub_split (c : Thread nD τ) arrs_sub (V₁ m c), zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption
theorem reg_post (c : Dev nD) : (reg m).post c ⊢ iprop(StableHlo.held (c : Thread nD τ) bufs (V₂ m c) ∗ R' c) := by
  show iprop(StableHlo.held (c.tc : Thread nD τ) arrs (V₂ m c) ∗ (∃ r, prngReg c r)
    ∗ (StableHlo.held (c.tc : Thread nD τ) (bufs \ arrs) (V₂ m c) ∗ emp) ∗ Yk c ∗ ∃ Wd, owes (c : Thread nD τ) (0 : CellTallies nD τ sig Unit) Wd) ⊢ _
  rw [StableHlo.held_sub_split (c : Thread nD τ) arrs_sub (V₂ m c)]
  unfold R'
  iintro ⟨Ha, -, ⟨Hr, -⟩, HY, HO⟩
  isplitl [Ha Hr]; · isplitl [Ha] <;> iassumption
  isplitl [HY] <;> iassumption

/-! ## The launch: every cell funded, every duty's token dealt to the device that pays it -/

/-- The duties' tokens: four per barrier cell, one per cell of a transfer. -/
abbrev Du : Type := Fin 4 ⊕ (T ⊕ T)
abbrev duSem : Du → SemLoc sig
  | .inl _ => .reg barS
  | .inr k => scSem k
abbrev duIx : Du → Fin 4
  | .inl d => d
  | .inr _ => 0
theorem sc_ne_bar (k : T ⊕ T) : scSem k ≠ .reg barS := by rcases k with t | t <;> intro h <;> cases h
theorem du_inj {x y : Du} (hs : duSem x = duSem y) (hi : duIx x = duIx y) : x = y := by
  rcases x with d | k <;> rcases y with e | l
  · exact congrArg Sum.inl hi
  · exact absurd hs.symm (sc_ne_bar l)
  · exact absurd hs (sc_ne_bar k)
  · exact congrArg Sum.inr (scSem_inj hs)
def talkToks : Finset (GSem nD τ sig × ℕ × Fin 4) :=
  Finset.univ.map ⟨fun ck : Dev nD × Du => (((ck.1 : Thread nD τ), duSem ck.2), 0, duIx ck.2), fun _ _ h =>
    Prod.ext (congrArg (fun t : GSem nD τ sig × ℕ × Fin 4 => t.1.1.1) h)
      (du_inj (congrArg (fun t : GSem nD τ sig × ℕ × Fin 4 => t.1.2) h) (congrArg (fun t : GSem nD τ sig × ℕ × Fin 4 => t.2.2) h))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact sc_ne_bar ck.2 (congrArg Prod.snd h)

/-- The launch element: the pipeline's part, and the exchange's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- Parked on one device until the global step. -/
def G (c : Dev nD) : sProp 𝕄 := if c = 0 then BI.own (ER (launchOf barCells scCells talkToks)) else iprop(emp)
theorem G_all : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- All the invariants, and that round 0 of every barrier cell is reached. -/
def records (κ : GSem nD τ sig → ℕ) : sProp 𝕄 := iprop(invs (Xs m) κ ∗ bigSep barCells fun g => reached ER g 0)
instance records_persistent (κ : GSem nD τ sig → ℕ) : BI.Persistent (records m κ) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- One device's share of the tokens of the transfers, -/
abbrev payTok (c : Dev nD) (t : T) : sProp 𝕄 := iprop(dutyTok ER (sendCell c t) 0 0 ∗ dutyTok ER (recvCell (toward (dir t) c) t) 0 0)
/-- of the tokens of its neighbours' barrier duties, -/
abbrev barTok (c : Dev nD) (d : Fin 4) : sProp 𝕄 := dutyTok ER (barCell (toward d c)) 0 (back d)
/-- and of the rights to open its cells. -/
abbrev openToks (c : Dev nD) (t : T) : sProp 𝕄 := iprop(openTok ER (sendCell c t) ∗ openTok ER (recvCell c t))
def linear (c : Dev nD) : sProp 𝕄 :=
  iprop(atPos ER (barCell c) 0 ∅ 0 ∗ bigSep Finset.univ (openToks (F := F) c) ∗ bigSep Finset.univ (barTok (F := F) c) ∗ bigSep Finset.univ (payTok (F := F) c))
def credits (c : Dev nD) : sProp 𝕄 := iprop(cred (tallyAt (barCell c) () 4) ∗ bigSep Finset.univ fun t => cred (tallyAt (recvCell c t) () N))

/-- One step along direction `d`, as a rearrangement of the devices; -/
def turn (d : Fin 4) : Dev nD ≃ Dev nD where
  toFun := toward d
  invFun := toward (back d)
  left_inv := to_back d
  right_inv := back_to d
/-- and the directions turned round. -/
def around : Fin 4 ≃ Fin 4 where
  toFun := back
  invFun := back
  left_inv := back_back
  right_inv := back_back

theorem toks_eq : bigSep talkToks (fun x => (dutyTok ER x.1 x.2.1 x.2.2 : sProp 𝕄))
    = bigSep Finset.univ fun c : Dev nD => iprop((bigSep Finset.univ fun d => dutyTok ER (barCell c) 0 d)
        ∗ (bigSep Finset.univ fun t => dutyTok ER (sendCell c t) 0 0) ∗ bigSep Finset.univ fun t => dutyTok ER (recvCell c t) 0 0) := by
  unfold talkToks; rw [bigSep_map, bigSep_univ_prod]
  exact bigSep_congr fun c _ => by rw [bigSep_univ_sum, bigSep_univ_sum]; rfl

theorem bar_around : (bigSep Finset.univ fun c : Dev nD => bigSep Finset.univ fun d => (dutyTok ER (barCell c) 0 d : sProp 𝕄))
    = bigSep Finset.univ fun c : Dev nD => bigSep Finset.univ (barTok (F := F) c) := by
  rw [Pipeline.bigSep_univ_comm, Pipeline.bigSep_univ_comm (fun (c : Dev nD) d => barTok (F := F) c d),
    bigSep_univ_equiv around (fun d => bigSep Finset.univ fun c : Dev nD => (dutyTok ER (barCell c) 0 d : sProp 𝕄))]
  exact bigSep_congr fun d _ => bigSep_univ_equiv (turn d) (fun c : Dev nD => (dutyTok ER (barCell c) 0 (back d) : sProp 𝕄))
theorem recv_around : (bigSep Finset.univ fun c : Dev nD => bigSep Finset.univ fun t => (dutyTok ER (recvCell c t) 0 0 : sProp 𝕄))
    = bigSep Finset.univ fun c : Dev nD => bigSep Finset.univ fun t => (dutyTok ER (recvCell (toward (dir t) c) t) 0 0 : sProp 𝕄) := by
  rw [Pipeline.bigSep_univ_comm, Pipeline.bigSep_univ_comm (fun (c : Dev nD) t => (dutyTok ER (recvCell (toward (dir t) c) t) 0 0 : sProp 𝕄))]
  exact bigSep_congr fun t _ => bigSep_univ_equiv (turn (dir t)) (fun c : Dev nD => (dutyTok ER (recvCell c t) 0 0 : sProp 𝕄))

theorem toks_around : bigSep talkToks (fun x => (dutyTok ER x.1 x.2.1 x.2.2 : sProp 𝕄))
    = bigSep Finset.univ fun c : Dev nD => iprop(bigSep Finset.univ (barTok (F := F) c) ∗ bigSep Finset.univ (payTok (F := F) c)) := by
  rw [toks_eq, bigSep_sep', bigSep_sep', bar_around, recv_around, bigSep_sep', ← bigSep_sep']
  exact congrArg _ (bigSep_congr fun c _ => (bigSep_sep' ..).symm)

theorem tk_intro (κ : GSem nD τ sig → ℕ) (c : Dev nD) : iprop(records m κ ∗ (linear c ∗ credits c)) ⊢ (Tk (Xs m) c : sProp 𝕄) := by
  unfold records linear credits Tk
  iintro ⟨⟨#HI, #HR⟩, ⟨Hat, Ho, Hb, Hp⟩, Hc, Hr⟩
  iexists κ
  isplitr; · iexact HI
  isplitl [Hc]; · iexact Hc
  isplitl [Hat]; · iexact Hat
  isplitl [Hb]
  · iapply (bigSep_with_persistent (R := bigSep barCells fun g => (reached ER g 0 : sProp 𝕄)) (Φ := barTok (F := F) c) (Ψ := barDuty (F := F) c) fun d _ => by
      show (_ : sProp 𝕄) ⊢ _
      unfold barDuty
      iintro ⟨#HR, Hb⟩
      isplitl [Hb]; · iexact Hb
      iapply (reached_at (F := F) (toward d c)); iexact HR)
    isplitr; · iexact HR
    iexact Hb
  ihave H := (show iprop(bigSep Finset.univ (openToks (F := F) c) ∗ bigSep Finset.univ (payTok (F := F) c) ∗ (bigSep Finset.univ fun t => cred (tallyAt (recvCell c t) () N)))
      ⊢ (bigSep Finset.univ (seed (F := F) c) : sProp 𝕄) from by
    rw [← bigSep_sep', ← bigSep_sep']
    refine bigSep_mono fun t _ => ?_
    show (_ : sProp 𝕄) ⊢ _
    unfold seed
    iintro ⟨⟨Ho, Hp⟩, ⟨Hs, Hr⟩, Hc⟩
    isplitl [Hs]; · iexact Hs
    isplitl [Hr]; · iexact Hr
    isplitl [Ho]; · iexact Ho
    isplitl [Hp] <;> iassumption) $$ [Ho Hp Hr]
  · isplitl [Ho]; · iexact Ho
    isplitl [Hp] <;> iassumption
  iexact H

/-! ## The credit every device starts with -/

theorem O_at {n : ℕ} (d : Dev nD) (g : GSem nD τ sig) :
    O n d g () = ∑ t ∈ (Finset.univ : Finset T).filter (fun t => n ≤ t.val), (tallyAt (recvCell (toward (dir t) d) t) () N : CellTallies nD τ sig Unit) g () := by
  unfold O; rw [Finset.sum_apply, Finsupp.finsetSum_apply]

theorem O₀_at (d : Dev nD) (g : GSem nD τ sig) :
    O₀ d g () = O 0 d g () + barDue 1 d g () + barDue 0 d g () + barDue 3 d g () + barDue 2 d g () := by
  unfold O₀; simp only [Pi.add_apply, Finsupp.add_apply]

theorem recv_ne_bar (c e : Dev nD) (t : T) : recvCell c t ≠ barCell e := fun h => by cases congrArg Prod.snd h

theorem turn_iff (e : Fin 4) (c d : Dev nD) : c = toward e d ↔ d = toward (back e) c :=
  ⟨fun h => h ▸ (to_back e d).symm, fun h => h ▸ (back_to e c).symm⟩

theorem barDue_at (e : Fin 4) (c d : Dev nD) : barDue e d (barCell c) () = if d = toward (back e) c then 1 else 0 := by
  show (tallyAt (barCell (toward e d)) () 1 : CellTallies nD τ sig Unit) (barCell c) () = _
  rw [tallyAt_apply]
  exact if_congr ⟨fun h => (turn_iff e c d).mp (congrArg (fun g : GSem nD τ sig => g.1.1) h.1), fun h => ⟨congrArg barCell ((turn_iff e c d).mpr h), rfl⟩⟩ rfl rfl

theorem owed_bar (d c : Dev nD) : O₀ d (barCell c) () = (if d = toward (back 1) c then 1 else 0) + (if d = toward (back 0) c then 1 else 0)
    + (if d = toward (back 3) c then 1 else 0) + (if d = toward (back 2) c then 1 else 0) := by
  rw [O₀_at, barDue_at, barDue_at, barDue_at, barDue_at, O_at, Finset.sum_eq_zero fun t _ => by
    rw [tallyAt_ne_cell (fun h => recv_ne_bar _ _ _ h.symm)]; rfl, zero_add]
theorem owed_recv (d c : Dev nD) (t : T) : O₀ d (recvCell c t) () = if d = toward (back (dir t)) c then N else 0 := by
  have hb (e : Fin 4) : barDue e d (recvCell c t) () = 0 := by
    show (tallyAt (barCell (toward e d)) () 1 : CellTallies nD τ sig Unit) (recvCell c t) () = 0
    rw [tallyAt_ne_cell (recv_ne_bar _ _ _)]; rfl
  rw [O₀_at, hb, hb, hb, hb, O_at, Nat.add_zero,
    Finset.sum_eq_single_of_mem t (Finset.mem_filter.mpr ⟨Finset.mem_univ _, Nat.zero_le _⟩) fun u _ hu => by
      rw [tallyAt_ne_cell (fun h => hu (Kd.rcv.inj ((kindOf_recv u).symm.trans ((congrArg (fun g : GSem nD τ sig => kindOf g.2) h.symm).trans (kindOf_recv t)))))]; rfl,
    tallyAt_apply]
  exact if_congr ⟨fun h => (turn_iff (dir t) c d).mp (congrArg (fun g : GSem nD τ sig => g.1.1) h.1), fun h => ⟨congrArg (recvCell · t) ((turn_iff (dir t) c d).mpr h), rfl⟩⟩ rfl rfl

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]
theorem launch_recv (c : Dev nD) (t : T) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (toward (back (dir t)) c) fun _ => N,
    if_pos (Finset.mem_univ _)]

def recvEmb : T ↪ SemLoc sig := ⟨fun t => .dma (recvS t), fun t u h => Kd.rcv.inj ((kindOf_recv t).symm.trans ((congrArg kindOf h).trans (kindOf_recv u)))⟩

theorem creds (c : Dev nD) : (Pipeline.launchCred O₀ c : sProp 𝕄) ⊢ credits c := by
  unfold Pipeline.launchCred credits
  rw [bigSep_univ_at _ (SemLoc.reg barS), launch_bar]
  have hs : (Finset.univ.map recvEmb : Finset (SemLoc sig)) ⊆ Finset.univ.erase (SemLoc.reg barS) := fun sm h => by
    obtain ⟨t, -, rfl⟩ := Finset.mem_map.mp h
    refine Finset.mem_erase.mpr ⟨fun e => ?_, Finset.mem_univ _⟩
    cases e
  refine sep_mono_right ((bigSep_subset hs).trans ?_)
  rw [bigSep_map]
  exact Entails.of_eq (bigSep_congr fun t _ => congrArg cred (launch_recv c t))

/-! ## The run -/

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₃ m c) ∗ Yk c)

/-- What a device is launched with beside the protocol's tokens. -/
def bundle (c : Dev nD) : sProp 𝕄 :=
  iprop(StableHlo.held (c : Thread nD τ) bufs (V₀ m c) ∗ credits c ∗ owes (c : Thread nD τ) (O₀ c) ∅ ∗ ∃ r, prngReg c r)

theorem T₀_intro (κ : GSem nD τ sig → ℕ) (c : Dev nD) : iprop(records m κ ∗ (linear c ∗ bundle m c)) ⊢ (T₀ m c : sProp 𝕄) := by
  unfold bundle T₀ R
  iintro ⟨#HR, Hl, Hh, Hc, HO, Hp⟩
  isplitl [Hh]; · iexact Hh
  isplitl [Hl Hc]
  · iapply (tk_intro m κ c)
    isplitr; · iexact HR
    isplitl [Hl] <;> iassumption
  isplitl [Hp]; · iexact Hp
  iexists ∅; iexact HO

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What one device is launched with. -/
abbrev atLaunch (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem launch_one (c : Dev nD) : atLaunch m ρ c ⊢ (iprop(bundle m c ∗ (semVal (barCell c) 0 ∗ G c)) : sProp 𝕄) := by
  unfold atLaunch
  rw [show (unscopedBufs c (fun b => m ((c : Thread nD τ).loc b)) : sProp 𝕄) = StableHlo.held (c : Thread nD τ) bufs (V₀ m c) from Pipeline.unscopedBufs_held c (V₀ m c),
    sems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem deal (κ : GSem nD τ sig → ℕ) :
    iprop(records m κ ∗ (bigSep barCells (fun g => (atPos ER g 0 ∅ 0 : sProp 𝕄)) ∗ bigSep scCells (fun g => (openTok ER g : sProp 𝕄))
        ∗ bigSep talkToks (fun x => (dutyTok ER x.1 x.2.1 x.2.2 : sProp 𝕄))) ∗ bigSep Finset.univ (bundle m))
      ⊢ (bigSep Finset.univ (T₀ m) : sProp 𝕄) := by
  have hopen : bigSep scCells (fun g => (openTok ER g : sProp 𝕄)) = bigSep Finset.univ fun c : Dev nD => bigSep Finset.univ (openToks (F := F) c) := by
    rw [bigSep_map, bigSep_univ_prod]
    exact bigSep_congr fun c _ => by rw [bigSep_univ_sum, bigSep_sep']; rfl
  rw [toks_around, hopen, bigSep_map, ← bigSep_sep', ← bigSep_sep', ← bigSep_sep']
  exact bigSep_with_persistent fun c _ => T₀_intro m κ c

theorem init : iprop((bigSep Finset.univ (atLaunch m ρ)) ∗ levAts L lv) ⊢ (|={Set.univ}=> bigSep Finset.univ (T₀ m) : sProp 𝕄) := by
  iintro ⟨H, -⟩
  ihave H := (show bigSep Finset.univ (atLaunch m ρ) ⊢ (iprop(bigSep Finset.univ (bundle m)
      ∗ (bigSep barCells (fun g => (semVal g 0 : sProp 𝕄)) ∗ BI.own (ER (launchOf barCells scCells talkToks)))) : sProp 𝕄) from by
    rw [← G_all, bigSep_map, ← bigSep_sep', ← bigSep_sep']
    exact bigSep_mono fun c _ => launch_one m ρ c) $$ H
  icases H with ⟨HB, Hv, Hu⟩
  imod (Rounds.fund_launch ER (rd (Xs m)) disjoint_cells (fun g _ h => h) talkToks) $$ [Hv Hu] with ⟨%κ, -, #Hinv, #Hr, Hat, Hopen, Htok⟩
  · isplitl [Hv] <;> iassumption
  imodintro
  iapply (deal m κ)
  isplitr
  · unfold records invs
    isplitr; · iexact Hinv
    iexact Hr
  isplitr [HB]
  · isplitl [Hat]; · iexact Hat
    isplitl [Hopen] <;> iassumption
  iexact HB

theorem unscoped_eq : ∀ sm : SemLoc sig, sm.isScoped .tc = false → sm = .reg barS := by decide +kernel

/-- The buffers the claims speak of, -/
def shown : Finset (DevRef τ sig) := {Proc.devRef .tc main_arg0, Proc.devRef .tc main_arg1, Proc.devRef .tc main_arg2, Proc.devRef .tc main_v14}
theorem shown_sub : shown ⊆ bufs := by decide +kernel
theorem shown_eq (c : Dev nD) (W : Valuation τ sig (Elt F)) : (StableHlo.held (c : Thread nD τ) shown W : sProp 𝕄)
    = iprop(pt c main_arg0 (W (Proc.devRef .tc main_arg0)) ∗ pt c main_arg1 (W (Proc.devRef .tc main_arg1))
      ∗ pt c main_arg2 (W (Proc.devRef .tc main_arg2)) ∗ pt c main_v14 (W (Proc.devRef .tc main_v14))) := by
  unfold StableHlo.held shown
  rw [bigSep_eq_bigSepL_of_eq [Proc.devRef .tc main_arg0, Proc.devRef .tc main_arg1, Proc.devRef .tc main_arg2, Proc.devRef .tc main_v14] (by decide +kernel) (by decide +kernel)]
  rfl
/-- and what a final memory holds there. -/
def reads (c : Dev nD) (mem : (ℓ : Loc nD τ sig) → Buf (Elt F) ℓ) : Prop :=
  mem ((c : Thread nD τ).loc main_arg0) = V₃ m c (Proc.devRef .tc main_arg0)
    ∧ mem ((c : Thread nD τ).loc main_arg1) = V₃ m c (Proc.devRef .tc main_arg1)
    ∧ mem ((c : Thread nD τ).loc main_arg2) = V₃ m c (Proc.devRef .tc main_arg2)
    ∧ mem ((c : Thread nD τ).loc main_v14) = V₃ m c (Proc.devRef .tc main_v14)

set_option backward.isDefEq.respectTransparency.types false in
/-- THE RUN: every weakly fair execution of @main terminates; every final state has the arguments and the result at what the
    operations make of the memory it started with, and every counter at zero. -/
theorem run_all : θ_run defs (onTc (τ := τ) (main (F := F))) (s₀ m ρ)
    (fun r => (∀ c : Dev nD, reads m c r.2.mem)
      ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg_pre m c, fun c => reg_post m c, fun c => ?_⟩
      show iprop(StableHlo.held (c : Thread nD τ) bufs (V₃ m c) ∗ R' c)
        ⊢ iprop(Tₙ m c ∗ ∃ W, owes (c : Thread nD τ) (0 : CellTallies nD τ sig Unit) W)
      unfold R'
      iintro ⟨Hh, Hb, HO⟩
      isplitr [HO]
      · isplitl [Hh] <;> iassumption
      iexact HO)
    (hinit := init m ρ)
    (QY := fun c s => reads m c s.mem ∧ s.sem (barCell c) = 0)
    (hfin := fun c s' => by
      dsimp only [Tₙ]
      rw [StableHlo.held_sub_split (c : Thread nD τ) shown_sub (V₃ m c), shown_eq]
      unfold Yk reads
      iintro ⟨⟨⟨⟨H0, H1, H2, H3⟩, -⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => (h c).1,
      sem_eq_zero hs fun c sm hsm => by
        obtain rfl := unscoped_eq sm hsm
        exact (h c).2⟩)

/-! ## What the operations make of the arguments -/

/-- No operation writes a buffer that is the result of none. -/
theorem V₃_arg (c : Dev nD) (b : Ref sig .tc) (h0 : ∀ op ∈ (hostOps0 : List (HloOp τ sig (Elt F))), Proc.devRef .tc b ∉ op.writes)
    (h1 : ∀ op ∈ (hostOps1 : List (HloOp τ sig (Elt F))), Proc.devRef .tc b ∉ op.writes) (hb : (Proc.devRef .tc b : DevRef τ sig) ≠ Proc.devRef .tc main_v12) :
    V₃ m c (Proc.devRef .tc b) = m ((c : Thread nD τ).loc b) :=
  (StableHlo.after_of_forall_not_mem _ _ h1).trans ((V₂_ne m c hb).trans (StableHlo.after_of_forall_not_mem _ _ h0))

/-- The buffers written, before the kernel and after it. -/
def written : List (Ref sig .tc) := [main_v1, main_v2, main_cst, main_v3, main_v4, main_v5, main_v6, main_v7, main_v8, main_v9, main_v10, main_v11]
theorem writes0 : ∀ op ∈ (hostOps0 : List (HloOp τ sig (Elt F))), ∃ b ∈ written, op.writes = {Proc.devRef .tc b} :=
  List.forall_iff_forall_mem.mp ⟨⟨_, by decide, rfl⟩, ⟨_, by decide, rfl⟩, ⟨_, by decide, rfl⟩, ⟨_, by decide, rfl⟩, ⟨_, by decide, rfl⟩, ⟨_, by decide, rfl⟩,
    ⟨_, by decide, rfl⟩, ⟨_, by decide, rfl⟩, ⟨_, by decide, rfl⟩, ⟨_, by decide, rfl⟩, ⟨_, by decide, rfl⟩, ⟨_, by decide, rfl⟩⟩
theorem writes1 : ∀ op ∈ (hostOps1 : List (HloOp τ sig (Elt F))), ∃ b ∈ [main_v13, main_v14], op.writes = {Proc.devRef .tc b} :=
  List.forall_iff_forall_mem.mp ⟨⟨_, by decide, rfl⟩, ⟨_, by decide, rfl⟩⟩
theorem unwritten {b : Ref sig .tc} {l : List (Ref sig .tc)} {ops : List (HloOp τ sig (Elt F))} (hw : ∀ op ∈ ops, ∃ b ∈ l, op.writes = {Proc.devRef .tc b})
    (hb : b ∉ l) : ∀ op ∈ ops, Proc.devRef .tc b ∉ op.writes := fun op h hm => by
  obtain ⟨b', hl, e⟩ := hw op h
  rw [e, Finset.mem_singleton] at hm
  exact StableHlo.devRef_ne_of_ne (fun e : b = b' => hb (e ▸ hl)) hm

/-- The run, its arguments as it found them. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v14) = V₃ m c (Proc.devRef .tc main_v14))
      ∧ r.2.sem = fun _ => 0) :=
  (θ_run defs _ _).mono (fun _ h => ⟨fun c => by
    obtain ⟨e0, e1, e2, e3⟩ := h.1 c
    exact ⟨e0.trans (V₃_arg m c _ (unwritten writes0 (by decide)) (unwritten writes1 (by decide)) (StableHlo.devRef_ne_of_ne (by decide))),
      e1.trans (V₃_arg m c _ (unwritten writes0 (by decide)) (unwritten writes1 (by decide)) (StableHlo.devRef_ne_of_ne (by decide))),
      e2.trans (V₃_arg m c _ (unwritten writes0 (by decide)) (unwritten writes1 (by decide)) (StableHlo.devRef_ne_of_ne (by decide))), e3⟩, h.2⟩) (run_all m ρ)

end Cert.KernelIdeal.Talk

end
-- ==== Proof.Frames.lean ====
/-
  The frame claims: each program runs to its end, leaves its arguments as they were, and leaves every counter at zero.
  The kernel's own program and its reading over the extended reals are one program read at two instances, so both
  frames are the one run of the Launch module.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.ShloMosaic.TcCoe Idealize.SL.Sem

/-- The two printings have the same kernel: one label, whose body is the same text. -/
theorem same_body : Cert.KernelIdeal.defs₀ (F := Bits) = Cert.Kernel.defs₀ (F := Bits) := by
  unfold Cert.KernelIdeal.defs₀ Cert.Kernel.defs₀
  refine congrArg _ ?_
  funext l a
  match l, a with
  | ⟨0, _⟩, (t, s) => rfl
  | ⟨_ + 1, h⟩, _ => exact absurd h (Nat.not_lt.2 (Nat.le_add_left _ _))

theorem same_defs : Cert.KernelIdeal.defs (F := Bits) = Cert.Kernel.defs (F := Bits) := by
  unfold Cert.KernelIdeal.defs Cert.Kernel.defs
  rw [same_body]
  rfl

/-- The kernel, over the chip's own words. -/
theorem frame_kernel : Cert.quiescent_Kernel := fun m ρ _ => by
  rw [← same_defs]
  exact (θ_run Cert.KernelIdeal.defs _ _).mono
    (fun _ h => ⟨fun c => ⟨(h.1 c).1, (h.1 c).2.1, (h.1 c).2.2.1⟩, h.2⟩)
    (Cert.KernelIdeal.Talk.run_main (F := Bits) m ρ)

/-- The kernel, over the extended reals. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1⟩, h.2⟩)
    (Cert.KernelIdeal.Talk.run_main (F := Ideal) m ρ)

/-- The reference, which has no counter at all. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Softmax.lean ====
/-
  A softmax gathered block by block is the softmax of all blocks at once, over the extended reals. The scores are real;
  the values may be infinite.
-/
module

public import Idealize.ShloMosaic.PureOps.Ideal
public import Mathlib.Data.EReal.Operations

@[expose] public section

noncomputable section

namespace Cert.Softmax

open Idealize.ShloMosaic
open scoped BigOperators

theorem exp_coe (x : ℝ) : Ideal.exp (x : EReal) = ((Real.exp x : ℝ) : EReal) := rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is real and not negative goes into a sum, whatever the terms. -/
theorem sum_mul_pos {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-- The largest of finitely many reals, taken from −∞, is real. -/
theorem fold_max_real {ι : Type*} (s : Finset ι) (hs : s.Nonempty) (f : ι → ℝ) :
    ∃ r : ℝ, s.fold max (⊥ : EReal) (fun i => (f i : EReal)) = (r : EReal) := by
  classical
  induction hs using Finset.Nonempty.cons_induction with
  | singleton a => exact ⟨f a, by simp⟩
  | cons a s ha _ ih =>
    obtain ⟨r, hr⟩ := ih
    exact ⟨max (f a) r, by rw [Finset.fold_cons, hr]; exact (EReal.coe_strictMono.monotone.map_max).symm⟩

variable {ι κ : Type} [DecidableEq ι] [Fintype κ] (sc : ι → κ → ℝ) (vv : ι → κ → EReal)

/-- The sum of the exponentials over the blocks `T`, at offset `μ`, -/
def tot (T : Finset ι) (μ : ℝ) : ℝ := ∑ s ∈ T, ∑ j, Real.exp (sc s j - μ)
/-- and the weighted values. -/
def acc (T : Finset ι) (μ : ℝ) : EReal := ∑ s ∈ T, ∑ j, ((Real.exp (sc s j - μ) : ℝ) : EReal) * vv s j

/-- What the running values are after the blocks `T`: the sums at some offset. -/
def Good (T : Finset ι) (a m l : EReal) : Prop := ∃ μ : ℝ, m = (μ : EReal) ∧ l = ((tot sc T μ : ℝ) : EReal) ∧ a = acc sc vv T μ

theorem exp_shift (x μ ν : ℝ) : Real.exp (x - μ) * Real.exp (μ - ν) = Real.exp (x - ν) := by
  rw [← Real.exp_add]; congr 1; ring

theorem tot_shift (T : Finset ι) (μ ν : ℝ) : tot sc T μ * Real.exp (μ - ν) = tot sc T ν := by
  unfold tot
  rw [Finset.sum_mul]
  refine Finset.sum_congr rfl fun s _ => ?_
  rw [Finset.sum_mul]
  exact Finset.sum_congr rfl fun j _ => exp_shift _ _ _

theorem acc_shift (T : Finset ι) (μ ν : ℝ) : acc sc vv T μ * ((Real.exp (μ - ν) : ℝ) : EReal) = acc sc vv T ν := by
  unfold acc
  rw [sum_mul_pos _ _ (Real.exp_nonneg _)]
  refine Finset.sum_congr rfl fun s _ => ?_
  rw [sum_mul_pos _ _ (Real.exp_nonneg _)]
  refine Finset.sum_congr rfl fun j _ => ?_
  rw [mul_right_comm, ← EReal.coe_mul, exp_shift]

theorem block_tot (s : ι) (μ : ℝ) : (∑ j, Ideal.exp ((sc s j : EReal) - (μ : EReal))) = ((tot sc {s} μ : ℝ) : EReal) := by
  unfold tot
  rw [Finset.sum_singleton, coe_sum]
  exact Finset.sum_congr rfl fun j _ => by rw [← EReal.coe_sub, exp_coe]
theorem block_acc (s : ι) (μ : ℝ) : (∑ j, Ideal.exp ((sc s j : EReal) - (μ : EReal)) * vv s j) = acc sc vv {s} μ := by
  unfold acc
  rw [Finset.sum_singleton]
  exact Finset.sum_congr rfl fun j _ => by rw [← EReal.coe_sub, exp_coe]

/-- The first block. -/
theorem good_first (s : ι) {a m l : EReal} (β : ℝ) (hm : m = (β : EReal))
    (hl : l = ∑ j, Ideal.exp ((sc s j : EReal) - m)) (ha : a = ∑ j, Ideal.exp ((sc s j : EReal) - m) * vv s j) : Good sc vv {s} a m l := by
  subst hm
  exact ⟨β, rfl, hl.trans (block_tot sc s β), ha.trans (block_acc sc vv s β)⟩

/-- A later block. -/
theorem good_next {T : Finset ι} (s : ι) (hs : s ∉ T) {a m l a' m' l' : EReal} (h : Good sc vv T a m l) (β : ℝ) (hm : m' = max m (β : EReal))
    (hl : l' = l * Ideal.exp (m - m') + ∑ j, Ideal.exp ((sc s j : EReal) - m'))
    (ha : a' = a * Ideal.exp (m - m') + ∑ j, Ideal.exp ((sc s j : EReal) - m') * vv s j) : Good sc vv (insert s T) a' m' l' := by
  obtain ⟨μ, rfl, rfl, rfl⟩ := h
  have hν : m' = ((max μ β : ℝ) : EReal) := hm.trans (EReal.coe_strictMono.monotone.map_max).symm
  generalize max μ β = ν at hν
  subst hν
  refine ⟨ν, rfl, ?_, ?_⟩
  · rw [hl, block_tot, ← EReal.coe_sub, exp_coe, ← EReal.coe_mul, tot_shift, ← EReal.coe_add]
    congr 1
    unfold tot
    rw [Finset.sum_insert hs, Finset.sum_singleton, add_comm]
  · rw [ha, block_acc, ← EReal.coe_sub, exp_coe, acc_shift]
    unfold acc
    rw [Finset.sum_insert hs, Finset.sum_singleton, add_comm]

/-- The quotient at the end is the softmax at any other real offset, applied to the values. -/
theorem good_end [Fintype ι] [Nonempty ι] [Nonempty κ] {a m l : EReal} (h : Good sc vv Finset.univ a m l) (M : ℝ) :
    Ideal.div a l = ∑ s, ∑ j, vv s j * Ideal.div (Ideal.exp ((sc s j : EReal) - (M : EReal)))
      (∑ s, ∑ j, Ideal.exp ((sc s j : EReal) - (M : EReal))) := by
  obtain ⟨μ, rfl, rfl, rfl⟩ := h
  have hpos : ∀ ν, 0 < tot sc Finset.univ ν := fun ν =>
    Finset.sum_pos (fun s _ => Finset.sum_pos (fun j _ => Real.exp_pos _) Finset.univ_nonempty) Finset.univ_nonempty
  have hM : (∑ s, ∑ j, Ideal.exp ((sc s j : EReal) - (M : EReal))) = ((tot sc Finset.univ M : ℝ) : EReal) := by
    unfold tot
    rw [coe_sum]
    refine Finset.sum_congr rfl fun s _ => ?_
    rw [coe_sum]
    exact Finset.sum_congr rfl fun j _ => by rw [← EReal.coe_sub, exp_coe]
  have hdiv : ∀ (x : EReal) (r : ℝ), 0 < r → Ideal.div x (r : EReal) = x * ((r⁻¹ : ℝ) : EReal) := fun x r hr => by
    unfold Ideal.div
    rw [if_neg (by exact_mod_cast hr.ne'), EReal.coe_inv]
  rw [hM, hdiv _ _ (hpos μ)]
  have key : ∀ s j, vv s j * Ideal.div (Ideal.exp ((sc s j : EReal) - (M : EReal))) ((tot sc Finset.univ M : ℝ) : EReal)
      = ((Real.exp (sc s j - μ) : ℝ) : EReal) * vv s j * (((tot sc Finset.univ μ)⁻¹ : ℝ) : EReal) := fun s j => by
    rw [hdiv _ _ (hpos M), ← EReal.coe_sub, exp_coe, ← EReal.coe_mul, mul_comm (vv s j), mul_right_comm, ← EReal.coe_mul]
    congr 2
    rw [← exp_shift (sc s j) μ M, ← tot_shift sc Finset.univ μ M, mul_inv]
    have := (Real.exp_pos (μ - M)).ne'
    field_simp
  unfold acc
  rw [sum_mul_pos _ _ (inv_nonneg.mpr (hpos μ).le)]
  refine Finset.sum_congr rfl fun s _ => ?_
  rw [sum_mul_pos _ _ (inv_nonneg.mpr (hpos μ).le)]
  exact Finset.sum_congr rfl fun j _ => (key s j).symm

end Cert.Softmax

end
-- ==== Proof.Lanes.lean ====
/-
  The kernel's pass read lane by lane, over the extended reals: at a query row and a column of the values it is one step
  of the softmax gathered block by block.
-/
module

public import proofs.«01_k».proof.Proof.Read
public import proofs.«01_k».proof.Proof.Softmax
public import Idealize.ShloMosaic.Lib.Pointwise

@[expose] public section

set_option maxRecDepth 16384

noncomputable section

namespace Cert.KernelIdeal.Talk

open Idealize.ShloMosaic Idealize.ShloMosaic.TcCoe
open Cert.KernelIdeal.Gen
open scoped BigOperators

/-! ## The constants -/

theorem ofBits_neg_inf : Ideal.ofBits .f32 0xFF800000#32 = (⊥ : EReal) := by
  show Ideal.ieee 8 23 0xFF800000#32 = _
  unfold Ideal.ieee
  norm_num [show (BitVec.extractLsb' 23 8 0xFF800000#32).toNat = 255 from by decide, show (BitVec.extractLsb' 0 23 0xFF800000#32).toNat = 0 from by decide,
    show BitVec.extractLsb' 31 1 0xFF800000#32 = 1#1 from by decide]
theorem ofBits_inf : Ideal.ofBits .bf16 0x7F80#16 = (⊤ : EReal) := by
  show Ideal.ieee 8 7 0x7F80#16 = _
  unfold Ideal.ieee
  norm_num [show (BitVec.extractLsb' 7 8 0x7F80#16).toNat = 255 from by decide, show (BitVec.extractLsb' 0 7 0x7F80#16).toNat = 0 from by decide,
    show BitVec.extractLsb' 15 1 0x7F80#16 = 0#1 from by decide]
theorem ofBits_eighth : Ideal.ofBits .bf16 0x3E00#16 = ((1 / 8 : ℝ) : EReal) := by
  show Ideal.ieee 8 7 0x3E00#16 = _
  unfold Ideal.ieee
  norm_num [show (BitVec.extractLsb' 7 8 0x3E00#16).toNat = 124 from by decide, show (BitVec.extractLsb' 0 7 0x3E00#16).toNat = 0 from by decide,
    show BitVec.extractLsb' 15 1 0x3E00#16 = 0#1 from by decide]
theorem ofBits_eighth_f32 : Ideal.ofBits .f32 0x3E000000#32 = ((1 / 8 : ℝ) : EReal) := by
  show Ideal.ieee 8 23 0x3E000000#32 = _
  unfold Ideal.ieee
  norm_num [show (BitVec.extractLsb' 23 8 0x3E000000#32).toNat = 124 from by decide, show (BitVec.extractLsb' 0 23 0x3E000000#32).toNat = 0 from by decide,
    show BitVec.extractLsb' 31 1 0x3E000000#32 = 0#1 from by decide]

/-! ## The operations at a lane -/

section Ops
variable (q : Vec Ideal S1x256x64 .bf16) (k v : Vec Ideal S1x1x1x256x64 .bf16) (S : FVec Ideal S256x256 .f32) (m : FVec Ideal S256x1 .f32)
  (i : Fin 256) (j : Fin 256) (d : Fin 64)

theorem scores_at : scores q k (ix2 i j) = ∑ e : Fin 64, q (ix3 0 i e) * k (ix5 0 0 0 j e) := by
  pointwise [scores]
theorem rowMax_at : rowMax S (ix2 i 0) = Finset.univ.fold max (⊥ : EReal) fun j : Fin 256 => S (ix2 i j) := by
  pointwise [rowMax]
  rw [ofBits_neg_inf]
theorem rowSum_at : rowSum S (ix2 i 0) = ∑ j : Fin 256, S (ix2 i j) := by
  pointwise [rowSum]
theorem expAt_at : expAt S m (ix2 i j) = Ideal.exp (S (ix2 i j) - m (ix2 i 0)) := by
  pointwise [expAt]
theorem weigh_at : weigh S v (ix2 i d) = ∑ j : Fin 256, S (ix2 i j) * v (ix5 0 0 0 j d) := by
  pointwise [weigh]
end Ops

/-! ## A pass at a lane -/

section Pass
variable (q : Vec Ideal S1x256x64 .bf16) (k v : Vec Ideal S1x1x1x256x64 .bf16) (r : Row Ideal) (i : Fin 256) (d : Fin 64)

theorem first_m_at : ((rowFirst q k v).m (ix3 0 i 0) : EReal) = (rowMax (scores q k) (ix2 i 0) : EReal) := by
  have h : ∀ R : FVec Ideal S256x1 .f32, shapeCast S1x256x1 R shapeCasts_S256x1_S1x256x1 (ix3 0 i 0) = R (ix2 i 0) := fun R => by
    pointwise
  have e : (rowFirst q k v).m = firstM q k := by
    unfold rowFirst
    dsimp only
  have e' : firstM q k = shapeCast S1x256x1 (rowMax (scores q k)) shapeCasts_S256x1_S1x256x1 := rfl
  rw [e, e', h]
theorem first_l_at : (rowFirst q k v).l (ix3 0 i 0) = ∑ j : Fin 256, Ideal.exp (scores q k (ix2 i j) - rowMax (scores q k) (ix2 i 0)) := by
  refine Eq.trans (b := rowSum (expAt (scores q k) (rowMax (scores q k))) (ix2 i 0)) ?_ ?_
  · show firstL q k _ = _
    unfold firstL
    pointwise
  · rw [rowSum_at]
    exact Finset.sum_congr rfl fun j _ => expAt_at _ _ i j
theorem first_a_at : (rowFirst q k v).a (ix3 0 i d)
    = ∑ j : Fin 256, Ideal.exp (scores q k (ix2 i j) - rowMax (scores q k) (ix2 i 0)) * v (ix5 0 0 0 j d) := by
  refine Eq.trans (b := weigh (expAt (scores q k) (rowMax (scores q k))) v (ix2 i d)) ?_ ?_
  · show firstA q k v _ = _
    unfold firstA
    pointwise
  · rw [weigh_at]
    exact Finset.sum_congr rfl fun j _ => congrArg (· * v (ix5 0 0 0 j d)) (expAt_at _ _ i j)

theorem newMax_at (m : Vec Ideal S1x256x1 .f32) : newMax q k m (ix2 i 0) = max (m (ix3 0 i 0)) (rowMax (scores q k) (ix2 i 0)) := by
  unfold newMax
  pointwise
theorem shrink_at (m : Vec Ideal S1x256x1 .f32) : shrink q k m (ix2 i 0) = Ideal.exp (m (ix3 0 i 0) - newMax q k m (ix2 i 0)) := by
  unfold shrink
  pointwise
theorem next_m_at : (rowNext q k v r).m (ix3 0 i 0) = newMax q k r.m (ix2 i 0) := by
  show nextM q k r.m _ = _
  unfold nextM
  pointwise
theorem next_l_at : (rowNext q k v r).l (ix3 0 i 0) = r.l (ix3 0 i 0) * Ideal.exp (r.m (ix3 0 i 0) - newMax q k r.m (ix2 i 0))
    + ∑ j : Fin 256, Ideal.exp (scores q k (ix2 i j) - newMax q k r.m (ix2 i 0)) := by
  refine Eq.trans (b := r.l (ix3 0 i 0) * shrink q k r.m (ix2 i 0) + rowSum (expAt (scores q k) (newMax q k r.m)) (ix2 i 0)) ?_ ?_
  · show nextL q k r.m r.l _ = _
    unfold nextL
    pointwise
  · rw [rowSum_at, shrink_at]
    exact congrArg (_ + ·) (Finset.sum_congr rfl fun j _ => expAt_at _ _ i j)
theorem next_a_at : (rowNext q k v r).a (ix3 0 i d) = r.a (ix3 0 i d) * Ideal.exp (r.m (ix3 0 i 0) - newMax q k r.m (ix2 i 0))
    + ∑ j : Fin 256, Ideal.exp (scores q k (ix2 i j) - newMax q k r.m (ix2 i 0)) * v (ix5 0 0 0 j d) := by
  refine Eq.trans (b := r.a (ix3 0 i d) * shrink q k r.m (ix2 i 0) + weigh (expAt (scores q k) (newMax q k r.m)) v (ix2 i d)) ?_ ?_
  · show nextA q k v r.m r.a _ = _
    unfold nextA
    pointwise
  · rw [weigh_at, shrink_at]
    exact congrArg (_ + ·) (Finset.sum_congr rfl fun j _ => congrArg (· * v (ix5 0 0 0 j d)) (expAt_at _ _ i j))
theorem quot_at : quot r.a r.l (ix3 0 i d) = Ideal.div (r.a (ix3 0 i d)) (r.l (ix3 0 i 0)) := by
  unfold quot
  pointwise
end Pass

/-! ## All the passes of a head at a lane -/

open Cert.Softmax

section Head
variable (sc : Fin 16 → Fin 256 → ℝ) (vv : Fin 16 → Fin 256 → EReal) (i : Fin 256) (d : Fin 64)

/-- The running values of a head, at a query row and a column. -/
def GoodRow (T : Finset (Fin 16)) (r : Row Ideal) : Prop := Good sc vv T (r.a (ix3 0 i d)) (r.m (ix3 0 i 0)) (r.l (ix3 0 i 0))

variable (q : Vec Ideal S1x256x64 .bf16) (k v : Vec Ideal S1x1x1x256x64 .bf16) (s : Fin 16)
  (hs : ∀ j, scores q k (ix2 i j) = (sc s j : EReal)) (hv : ∀ j, v (ix5 0 0 0 j d) = vv s j)
include hs hv

omit hv in
theorem rowMax_real : ∃ β : ℝ, rowMax (scores q k) (ix2 i 0) = (β : EReal) := by
  rw [rowMax_at]
  simp only [hs]
  exact fold_max_real Finset.univ Finset.univ_nonempty (sc s)

theorem goodRow_first : GoodRow sc vv i d {s} (rowFirst q k v) := by
  obtain ⟨β, hβ⟩ := rowMax_real sc i q k s hs
  refine good_first sc vv s β ((first_m_at q k v i).trans hβ) ?_ ?_
  · rw [first_l_at, first_m_at]; simp only [hs]
  · rw [first_a_at, first_m_at]; simp only [hs, hv]

theorem goodRow_next (T : Finset (Fin 16)) (hT : s ∉ T) (r : Row Ideal) (h : GoodRow sc vv i d T r) :
    GoodRow sc vv i d (insert s T) (rowNext q k v r) := by
  obtain ⟨β, hβ⟩ := rowMax_real sc i q k s hs
  refine good_next sc vv s hT h β ?_ ?_ ?_
  · rw [next_m_at, newMax_at, hβ]
  · rw [next_l_at, next_m_at]; simp only [hs]
  · rw [next_a_at, next_m_at]; simp only [hs, hv]
end Head

section End
variable (sc : Fin 16 → Fin 256 → ℝ) (vv : Fin 16 → Fin 256 → EReal) (i : Fin 256) (d : Fin 64)
  (Q : CQ Ideal) (G : CG Ideal) (b : Fin heads.trips)
  (hs : ∀ s j, scores (qAt Q b) (gAt G s 0 b) (ix2 i j) = (sc s j : EReal)) (hv : ∀ s j, gAt G s 1 b (ix5 0 0 0 j d) = vv s j)
include hs hv

theorem goodRow_fold : ∀ (l : List (Fin 16)) (T : Finset (Fin 16)) (r : Row Ideal), l.Nodup → (∀ s ∈ l, s ∉ T) → GoodRow sc vv i d T r →
    GoodRow sc vv i d (T ∪ l.toFinset) (l.foldl (rowPass Q G b) r)
  | [], T, r, _, _, h => by simpa using h
  | s :: l, T, r, hn, hd, h => by
    have h' := goodRow_fold l (insert s T) (rowPass Q G b r s) (List.nodup_cons.mp hn).2
      (fun t ht => by
        rw [Finset.mem_insert, not_or]
        exact ⟨fun e => (List.nodup_cons.mp hn).1 (e ▸ ht), hd t (List.mem_cons_of_mem s ht)⟩)
      (goodRow_next sc vv i d (qAt Q b) (gAt G s 0 b) (gAt G s 1 b) s (hs s) (hv s) T (hd s List.mem_cons_self) r h)
    rw [List.foldl_cons]
    have e : T ∪ (s :: l).toFinset = insert s T ∪ l.toFinset := by
      rw [List.toFinset_cons, Finset.union_insert, Finset.insert_union]
    rw [e]
    exact h'

theorem goodRow_end : GoodRow sc vv i d Finset.univ (rowEnd Q G b) := by
  have h := goodRow_fold sc vv i d Q G b hs hv passes {0} _ (by decide) (by decide)
    (goodRow_first sc vv i d (qAt Q b) (gAt G 0 0 b) (gAt G 0 1 b) 0 (hs 0) (hv 0))
  have e : ({0} ∪ passes.toFinset : Finset (Fin 16)) = Finset.univ := by decide
  rw [e] at h
  exact h
end End

/-! ## Where a head's slices lie -/

theorem qAt_at (Q : CQ Ideal) (b : Fin 16) (i : Fin 256) (e : Fin 64) : qAt Q (trip b) (ix3 0 i e) = Q (ix3 b i e) := by
  have h : (R3 (trip b)).emb (ix3 0 i e) = ix3 b i e := by
    funext a
    apply Fin.ext
    rw [Rect.emb_apply]
    match a with
    | 0 => exact show hd (trip b) + 1 * 0 = b.val by rw [hd_eq]; exact Nat.add_zero _
    | 1 => exact show 0 + 1 * i.val = i.val by omega
    | 2 => exact show 0 + 1 * e.val = e.val by omega
  exact congrArg Q h
theorem gAt_at (G : CG Ideal) (s : Fin 16) (w : Fin 2) (b : Fin 16) (j : Fin 256) (e : Fin 64) :
    gAt G s w (trip b) (ix5 0 0 0 j e) = G (ix5 s w b j e) := by
  have h : (R5 s w (trip b)).emb (ix5 0 0 0 j e) = ix5 s w b j e := by
    funext a
    apply Fin.ext
    rw [Rect.emb_apply]
    match a with
    | 0 => exact show s.val + 1 * 0 = s.val by omega
    | 1 => exact show w.val + 1 * 0 = w.val by omega
    | 2 => exact show hd (trip b) + 1 * 0 = b.val by rw [hd_eq]; exact Nat.add_zero _
    | 3 => exact show 0 + 1 * j.val = j.val by omega
    | 4 => exact show 0 + 1 * e.val = e.val by omega
  exact congrArg G h

/-- The output of a head at a query row and a column: the softmax of its scores against all slots, applied to the values. -/
theorem outVal_at (Q : Vec Ideal S16x256x64 .bf16) (G : Vec Ideal S16x2x16x256x64 .bf16) (b : Fin 16) (i : Fin 256) (d : Fin 64) (sc : Fin 16 → Fin 256 → ℝ)
    (hs : ∀ s j, ∑ e : Fin 64, Q (ix3 b i e) * G (ix5 s 0 b j e) = (sc s j : EReal)) (M : ℝ) :
    outVal Q G (ix3 b i d) = ∑ s, ∑ j, G (ix5 s 1 b j d) * Ideal.div (Ideal.exp ((sc s j : EReal) - (M : EReal)))
      (∑ s, ∑ j, Ideal.exp ((sc s j : EReal) - (M : EReal))) := by
  have h : GoodRow sc (fun s j => G (ix5 s 1 b j d)) i d Finset.univ (rowEnd Q G (trip b)) :=
    goodRow_end sc (fun s j => G (ix5 s 1 b j d)) i d Q G (trip b)
      (fun s j => by
        rw [scores_at, ← hs s j]
        exact Finset.sum_congr rfl fun e _ => by rw [qAt_at, gAt_at])
      (fun s j => gAt_at G s 1 b j d)
  rw [← good_end sc _ h M, ← quot_at]
  have hw : within (ix3 b i d) = ix3 0 i d := by
    funext a
    match a with
    | 0 => rfl
    | 1 => rfl
    | 2 => rfl
  show quot _ _ (within (ix3 b i d)) = _
  rw [hw]
  rfl

end Cert.KernelIdeal.Talk

end
-- ==== Proof.Pre.lean ====
/-
  The precondition read lane by lane: the queries and the keys are real numbers. The values may be infinite.
-/
module

public import proofs.«01_k».proof.Pre_finite_qk_KernelIdeal
public import proofs.«01_k».proof.Pre_finite_qk_ReferenceIdeal
public import proofs.«01_k».proof.Proof.Lanes

@[expose] public section

noncomputable section

namespace Cert.Pre_finite_qk_KernelIdeal

open Idealize.ShloMosaic

theorem facts : Facts := ⟨by decide⟩

/-- A number whose absolute value is below infinity is real. -/
theorem real_of_lt {x : EReal} (hx : max x (-x) < (⊤ : EReal)) : ∃ r : ℝ, x = (r : EReal) := by
  induction x using EReal.rec with
  | bot => exact absurd hx (by simp)
  | coe r => exact ⟨r, rfl⟩
  | top => exact absurd hx (by simp)

theorem both_of_and {p q : Prop} [Decidable p] [Decidable q]
    (h : IntOp.andi (BitVec.ofBool (decide p)) (BitVec.ofBool (decide q)) = 1#1) : p ∧ q := by
  by_cases hp : p
  · by_cases hq : q
    · exact ⟨hp, hq⟩
    · rw [decide_eq_false hq] at h
      exact absurd h (by rw [decide_eq_true hp]; decide)
  · rw [decide_eq_false hp] at h
    by_cases hq : q
    · exact absurd h (by rw [decide_eq_true hq]; decide)
    · exact absurd h (by rw [decide_eq_false hq]; decide)

theorem fn_at [Facts] (q k v : FVec Ideal S2x256x8x64 .bf16) (a : Fin 2) (i : Fin 256) (h : Fin 8) (e : Fin 64) (hp : fn q k v (ix4 a i h e) = 1#1) :
    (∃ r : ℝ, q (ix4 a i h e) = (r : EReal)) ∧ ∃ r : ℝ, k (ix4 a i h e) = (r : EReal) := by
  revert hp
  pointwise [fn]
  intro hp
  obtain ⟨h1, h2⟩ := both_of_and hp
  rw [Cert.KernelIdeal.Talk.ofBits_inf] at h1 h2
  exact ⟨real_of_lt h1, real_of_lt h2⟩

end Cert.Pre_finite_qk_KernelIdeal
namespace Cert.Pre_finite_qk_ReferenceIdeal
open Idealize.ShloMosaic
theorem facts : Facts := ⟨by decide⟩
end Cert.Pre_finite_qk_ReferenceIdeal
end
-- ==== Proof.Values.lean ====
/-
  The arrays around the kernel, read lane by lane over the extended reals: what the operations before it make of the
  arguments, and what the operations after it make of its output.
-/
module

public import proofs.«01_k».proof.Proof.Launch
public import proofs.«01_k».proof.Proof.Lanes
public import Idealize.ShloMosaic.Lib.StableHlo.ReadAt

@[expose] public section

set_option maxRecDepth 16384

noncomputable section

namespace Cert.KernelIdeal.Talk

open Idealize.ShloMosaic Idealize.ShloMosaic.TcCoe
open Cert.KernelIdeal.Gen
open scoped BigOperators

variable (m : (ℓ : Loc nD τ sig) → Buf (Elt Ideal) ℓ) (c : Dev nD)

/-- The head that a batch and a head of the batch make. -/
def bh (a : Fin 2) (h : Fin 8) : Fin 16 := ⟨a.val * 8 + h.val, by omega⟩
theorem bh_div (a : Fin 2) (h : Fin 8) (p : (bh a h).val / 8 < 2) : (⟨(bh a h).val / 8, p⟩ : Fin 2) = a :=
  Fin.ext (show (a.val * 8 + h.val) / 8 = a.val by omega)
theorem bh_mod (a : Fin 2) (h : Fin 8) (p : (bh a h).val % 8 < 8) : (⟨(bh a h).val % 8, p⟩ : Fin 8) = h :=
  Fin.ext (show (a.val * 8 + h.val) % 8 = h.val by omega)

abbrev argQ : Vec Ideal S2x256x8x64 .bf16 := m ((c.tc : Thread nD τ).loc main_arg0)
abbrev argK : Vec Ideal S2x256x8x64 .bf16 := m ((c.tc : Thread nD τ).loc main_arg1)
abbrev argV : Vec Ideal S2x256x8x64 .bf16 := m ((c.tc : Thread nD τ).loc main_arg2)
abbrev arrQ : Vec Ideal S16x256x64 .bf16 := Qs m c
abbrev arrX : Vec Ideal S2x16x256x64 .bf16 := Xs m c

theorem arrQ_at (a : Fin 2) (h : Fin 8) (i : Fin 256) (e : Fin 64) :
    arrQ m c (ix3 (bh a h) i e) = argQ m c (ix4 a i h e) * ((1 / 8 : ℝ) : EReal) := by
  rw [← ofBits_eighth]
  unfold arrQ Qs V₁
  after_reads_at
  rw [bh_div, bh_mod]
theorem arrX_at0 (a : Fin 2) (h : Fin 8) (i : Fin 256) (e : Fin 64) :
    arrX m c (ix4 0 (bh a h) i e) = argK m c (ix4 a i h e) := by
  unfold arrX Xs V₁
  after_reads_at
  rw [bh_div, bh_mod]
theorem arrX_at1 (a : Fin 2) (h : Fin 8) (i : Fin 256) (e : Fin 64) :
    arrX m c (ix4 1 (bh a h) i e) = argV m c (ix4 a i h e) := by
  unfold arrX Xs V₁
  after_reads_at
  rw [bh_div, bh_mod]

abbrev outV : Vec Ideal S2x256x8x64 .f32 := V₃ m c (Proc.devRef .tc main_v14)
abbrev resV : Vec Ideal S16x256x64 .f32 := result (Qs m) (Xs m) c
theorem outV_at (a : Fin 2) (h : Fin 8) (i : Fin 256) (e : Fin 64) :
    outV m c (ix4 a i h e) = resV m c (ix3 (bh a h) i e) := by
  unfold resV
  rw [← V₂_out]
  unfold outV V₃
  after_reads_at
  rfl
end Cert.KernelIdeal.Talk
end
-- ==== Proof.RefValues.lean ====
/-
  The reference's result read lane by lane, over the extended reals: the softmax of a query's scores against all keys,
  applied to the values.
-/
module

public import proofs.«01_k».proof.Proof.Gen.ReferenceIdeal.Run
public import proofs.«01_k».proof.Proof.Lanes

@[expose] public section

set_option maxRecDepth 16384

noncomputable section

namespace Cert.ReferenceIdeal.Value

open Cert.ReferenceIdeal Cert.ReferenceIdeal.Gen Idealize.ShloMosaic Idealize.ShloMosaic.TcCoe
open Idealize.SL.Sem
open Cert.KernelIdeal.Talk (ofBits_neg_inf ofBits_eighth_f32)
open scoped BigOperators

variable (q k v : FVec Ideal S2x4096x8x64 .bf16)

/-- The scores of every query against every key. -/
def refS : FVec Ideal S2x8x4096x4096 .f32 :=
  mulf (Host.dotGeneral dot_S2x4096x8x64_S2x4096x8x64_S2x8x4096x4096_3_3_1_1_02_02 none (extf .f32 q bitsLt_bf16_f32) (extf .f32 k bitsLt_bf16_f32)) (broadcastInDim S2x8x4096x4096 ![] bcast_S_S2x8x4096x4096 (constant S_ .f32 0x3E000000#32))
/-- The largest score of each query. -/
def refM (S : FVec Ideal S2x8x4096x4096 .f32) : FVec Ideal S2x8x4096 .f32 :=
  Host.reduce FloatOps.maximumf S (constant S_ .f32 0xFF800000#32) reducesTo_S2x8x4096x4096_S2x8x4096_d3 h_S_
/-- One number for each query, at every key. -/
def spread (x : FVec Ideal S2x8x4096 .f32) : FVec Ideal S2x8x4096x4096 .f32 :=
  broadcastInDim S2x8x4096x4096 ![0, 1, 2, 3] bcast_S2x8x4096x1_S2x8x4096x4096_0_1_2_3 (broadcastInDim S2x8x4096x1 ![0, 1, 2] bcast_S2x8x4096_S2x8x4096x1_0_1_2 x)
/-- The exponentials of the scores, below the largest. -/
def refE (S : FVec Ideal S2x8x4096x4096 .f32) : FVec Ideal S2x8x4096x4096 .f32 := Host.exp (subf S (spread (refM S)))
/-- The sum over the keys. -/
def refL (E : FVec Ideal S2x8x4096x4096 .f32) : FVec Ideal S2x8x4096 .f32 :=
  Host.reduceAdd E (constant S_ .f32 0x00000000#32) reducesTo_S2x8x4096x4096_S2x8x4096_d3 h_S_
/-- The weights applied to the values. -/
def refO (E : FVec Ideal S2x8x4096x4096 .f32) : FVec Ideal S2x4096x8x64 .f32 :=
  transpose S2x4096x8x64 [0, 3, 1, 2] (Host.dotGeneral dot_S2x4096x8x64_S2x8x4096x4096_S2x8x64x4096_1_3_3_2_02_01 none (extf .f32 v bitsLt_bf16_f32) (Host.divf E (spread (refL E)))) transposes_S2x8x64x4096_S2x4096x8x64_0_3_1_2
/-- The reference's result. -/
def refV : FVec Ideal S2x4096x8x64 .f32 := refO v (refE (refS q k))

variable (S : FVec Ideal S2x8x4096x4096 .f32) (x : FVec Ideal S2x8x4096 .f32) (a : Fin 2) (h : Fin 8) (r j : Fin 4096) (d : Fin 64)

theorem refS_at : refS q k (ix4 a h r j) = (∑ e : Fin 64, q (ix4 a r h e) * k (ix4 a j h e)) * ((1 / 8 : ℝ) : EReal) := by
  rw [← ofBits_eighth_f32]
  pointwise [refS]
theorem refM_at : refM S (ix3 a h r) = Finset.univ.fold max (⊥ : EReal) fun j : Fin 4096 => S (ix4 a h r j) := by
  pointwise [refM]
  rw [ofBits_neg_inf]
theorem spread_at : spread x (ix4 a h r j) = x (ix3 a h r) := by
  pointwise [spread]
theorem refE_at : refE S (ix4 a h r j) = Ideal.exp (S (ix4 a h r j) - refM S (ix3 a h r)) := by
  rw [← spread_at (refM S) a h r j]
  rfl
theorem refL_at : refL S (ix3 a h r) = ∑ j : Fin 4096, S (ix4 a h r j) := by
  pointwise [refL]
theorem refO_at : refO v S (ix4 a r h d) = ∑ j : Fin 4096, v (ix4 a j h d) * Ideal.div (S (ix4 a h r j)) (∑ j : Fin 4096, S (ix4 a h r j)) := by
  rw [← refL_at]
  have e : ∀ j, spread (refL S) (ix4 a h r j) = refL S (ix3 a h r) := fun j => spread_at _ a h r j
  have e' : refO v S (ix4 a r h d) = ∑ j : Fin 4096, v (ix4 a j h d) * Ideal.div (S (ix4 a h r j)) (spread (refL S) (ix4 a h r j)) := by
    unfold refO
    generalize spread (refL S) = L
    pointwise
  rw [e']
  exact Finset.sum_congr rfl fun j _ => by rw [e]

/-- Where the scores of a query are real: its result, with one real number subtracted from each score. -/
theorem refV_at (sc : Fin 4096 → ℝ) (hs : ∀ j, (∑ e : Fin 64, q (ix4 a r h e) * k (ix4 a j h e)) * ((1 / 8 : ℝ) : EReal) = (sc j : EReal)) :
    ∃ M : ℝ, refV q k v (ix4 a r h d) = ∑ j : Fin 4096, v (ix4 a j h d) * Ideal.div (Ideal.exp ((sc j : EReal) - (M : EReal)))
      (∑ j : Fin 4096, Ideal.exp ((sc j : EReal) - (M : EReal))) := by
  have hS : ∀ j, refS q k (ix4 a h r j) = (sc j : EReal) := fun j => (refS_at q k a h r j).trans (hs j)
  obtain ⟨M, hM⟩ := Cert.Softmax.fold_max_real Finset.univ Finset.univ_nonempty sc
  have hm : refM (refS q k) (ix3 a h r) = (M : EReal) := by
    rw [refM_at, ← hM]
    exact congrArg (Finset.univ.fold max (⊥ : EReal)) (funext hS)
  have hE : ∀ j, refE (refS q k) (ix4 a h r j) = Ideal.exp ((sc j : EReal) - (M : EReal)) := fun j => by rw [refE_at, hS, hm]
  refine ⟨M, ?_⟩
  unfold refV
  rw [refO_at]
  simp only [hE]

/-- The reference's run, its result by name. -/
theorem run_refV (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = refV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := run m ρ

end Cert.ReferenceIdeal.Value
end
-- ==== Proof.Algebra.lean ====
/-
  The kernel's result on each device is its block of the reference's result: both are the softmax of the same scores
  against all keys, the kernel's summed device by device in the order its ring brings the blocks.
-/
module

public import proofs.«01_k».proof.Proof.Values
public import proofs.«01_k».proof.Proof.RefValues

@[expose] public section

set_option maxRecDepth 16384

noncomputable section

namespace Cert.KernelIdeal.Talk

open Idealize.ShloMosaic Idealize.ShloMosaic.TcCoe
open Cert.KernelIdeal.Gen
open Cert.ReferenceIdeal.Value (refV refV_at)
open scoped BigOperators

/-! ## Rows of the whole arrays -/

/-- The row of the whole array that a row of a device's block is. -/
def row (c : Dev nD) (i : Fin 256) : Fin 4096 :=
  ⟨c.val * 256 + i.val, by have h : c.val < 16 := c.isLt; omega⟩

/-- The whole array's shape. -/
abbrev S2x4096x8x64 : Shape := ⟨4, ![2, 4096, 8, 64]⟩

theorem block_at {α : Type} (v : S2x4096x8x64.Idx → α) (c : Dev nD) (ht : Layout.Tiles S2x256x8x64 S2x4096x8x64 1 16)
    (a : Fin 2) (i : Fin 256) (h : Fin 8) (e : Fin 64) :
    Layout.block S2x256x8x64 S2x4096x8x64 1 16 c v ht (ix4 a i h e) = v (ix4 a (row c i) h e) := by
  rw [Layout.block_apply]
  refine congrArg v (funext fun b => ?_)
  match b with
  | 0 => rfl
  | 1 => rfl
  | 2 => rfl
  | 3 => rfl

theorem own_inj : ∀ (c : Dev nD) (s s' : Fin 16), own c s = own c s' → s = s' := by decide +kernel

/-- A sum over all rows is the sum over the devices, in the order of the slots, and each device's rows. -/
theorem sum_rows (c : Dev nD) (f : Fin 4096 → EReal) : ∑ t, f t = ∑ s : Fin 16, ∑ j : Fin 256, f (row (own c s) j) := by
  have h1 : ∑ t, f t = ∑ d : Fin 16, ∑ j : Fin 256, f (row d j) := by
    rw [← Fintype.sum_prod_type' (fun (d : Fin 16) (j : Fin 256) => f (row d j))]
    refine (Function.Bijective.sum_comp (e := fun p : Fin 16 × Fin 256 => row p.1 p.2) ?_ f).symm
    constructor
    · rintro ⟨d, j⟩ ⟨d', j'⟩ e
      have e' : d.val * 256 + j.val = d'.val * 256 + j'.val := congrArg Fin.val e
      have hj := j.isLt
      have hj' := j'.isLt
      exact Prod.ext (Fin.ext (show d.val = d'.val by omega)) (Fin.ext (show j.val = j'.val by omega))
    · intro t
      have ht := t.isLt
      exact ⟨(⟨t.val / 256, by omega⟩, ⟨t.val % 256, by omega⟩), Fin.ext (show t.val / 256 * 256 + t.val % 256 = t.val by omega)⟩
  rw [h1]
  exact (Function.Bijective.sum_comp (e := fun s : Fin 16 => (own c s : Fin 16)) (Finite.injective_iff_bijective.mp (own_inj c))
    (fun d : Fin 16 => ∑ j : Fin 256, f (row d j))).symm

theorem row_own (t : Fin 4096) : ∃ (c : Dev nD) (i : Fin 256), t = row c i := by
  have ht := t.isLt
  exact ⟨(⟨t.val / 256, by omega⟩ : Fin 16), ⟨t.val % 256, by omega⟩, Fin.ext (show t.val = t.val / 256 * 256 + t.val % 256 by omega)⟩

/-! ## The result -/

variable (m : (ℓ : Loc nD τ sig) → Buf (Elt Ideal) ℓ)
variable (Qw Kw Vw : FVec Ideal S2x4096x8x64 .bf16)
  (hQ : ∀ (c : Dev nD) a i h e, argQ m c (ix4 a i h e) = Qw (ix4 a (row c i) h e))
  (hK : ∀ (c : Dev nD) a i h e, argK m c (ix4 a i h e) = Kw (ix4 a (row c i) h e))
  (hV : ∀ (c : Dev nD) a i h e, argV m c (ix4 a i h e) = Vw (ix4 a (row c i) h e))
  (rQ : ∀ a t h e, ∃ x : ℝ, Qw (ix4 a t h e) = (x : EReal)) (rK : ∀ a t h e, ∃ x : ℝ, Kw (ix4 a t h e) = (x : EReal))
include hQ hK hV rQ rK

theorem out_at (c : Dev nD) (a : Fin 2) (i : Fin 256) (h : Fin 8) (d : Fin 64) :
    outV m c (ix4 a i h d) = refV Qw Kw Vw (ix4 a (row c i) h d) := by
  choose xq hxq using rQ
  choose xk hxk using rK
  let sc : Fin 4096 → ℝ := fun t => (∑ e : Fin 64, xq a (row c i) h e * xk a t h e) * (1 / 8)
  obtain ⟨M, hM⟩ := refV_at Qw Kw Vw a h (row c i) d sc (fun t => by
    show _ = (((∑ e : Fin 64, xq a (row c i) h e * xk a t h e) * (1 / 8) : ℝ) : EReal)
    rw [EReal.coe_mul, Cert.Softmax.coe_sum]
    exact congrArg (· * ((1 / 8 : ℝ) : EReal)) (Finset.sum_congr rfl fun e _ => by rw [hxq, hxk, EReal.coe_mul]))
  have hX0 : ∀ s j e, (KV (Xs m) c : Vec Ideal S16x2x16x256x64 .bf16) (ix5 s 0 (bh a h) j e) = Kw (ix4 a (row (own c s) j) h e) := fun s j e =>
    (show _ = arrX m (own c s) (ix4 0 (bh a h) j e) from congrArg (Xs m (own c s)) (eq_ix4 _)).trans ((arrX_at0 m (own c s) a h j e).trans (hK _ _ _ _ _))
  have hX1 : ∀ s j e, (KV (Xs m) c : Vec Ideal S16x2x16x256x64 .bf16) (ix5 s 1 (bh a h) j e) = Vw (ix4 a (row (own c s) j) h e) := fun s j e =>
    (show _ = arrX m (own c s) (ix4 1 (bh a h) j e) from congrArg (Xs m (own c s)) (eq_ix4 _)).trans ((arrX_at1 m (own c s) a h j e).trans (hV _ _ _ _ _))
  rw [outV_at, hM, sum_rows c, sum_rows c]
  have hs : ∀ s j, ∑ e : Fin 64, arrQ m c (ix3 (bh a h) i e) * (KV (Xs m) c : Vec Ideal S16x2x16x256x64 .bf16) (ix5 s 0 (bh a h) j e)
      = (sc (row (own c s) j) : EReal) := fun s j => by
    show _ = (((∑ e : Fin 64, xq a (row c i) h e * xk a (row (own c s) j) h e) * (1 / 8) : ℝ) : EReal)
    rw [Finset.sum_mul, Cert.Softmax.coe_sum]
    refine Finset.sum_congr rfl fun e _ => ?_
    rw [hX0]
    refine (congrArg (· * Kw (ix4 a (row (own c s) j) h e)) (arrQ_at m c a h i e)).trans ?_
    show argQ m c (ix4 a i h e) * ((1 / 8 : ℝ) : EReal) * Kw (ix4 a (row (own c s) j) h e) = _
    rw [hQ, hxq, hxk, ← EReal.coe_mul, ← EReal.coe_mul]
    exact congrArg _ (by ring)
  have hO := outVal_at (arrQ m c) (KV (Xs m) c) (bh a h) i d (fun s j => sc (row (own c s) j)) hs M
  simp only [hX1] at hO
  exact hO

theorem out_block (c : Dev nD) (ht : Layout.Tiles S2x256x8x64 S2x4096x8x64 1 16) :
    outV m c = Layout.block S2x256x8x64 S2x4096x8x64 1 16 c (refV Qw Kw Vw) ht := by
  funext k
  rw [eq_ix4 k]
  exact (out_at m Qw Kw Vw hQ hK hV rQ rK c _ _ _ _).trans (block_at _ c ht _ _ _ _).symm

end Cert.KernelIdeal.Talk
end
-- ==== Proof.Equal.lean ====
/-
  The algebraic claim: where the queries and the keys are finite, each device ends with its block of the reference's result.
-/
module

public import proofs.«01_k».proof.Defs
public import proofs.«01_k».proof.Proof.Pre
public import proofs.«01_k».proof.Proof.Algebra

@[expose] public section

noncomputable section

namespace Cert.Proof

open Idealize.ShloMosaic Idealize.ShloMosaic.TcCoe Idealize.SL.Sem
open Cert.KernelIdeal.Talk

theorem algebraic : algebraic_KernelIdeal_ReferenceIdeal_pre_finite_qk_KernelIdeal (hKernelIdeal := Cert.KernelIdeal.Gen.facts)
    (hReferenceIdeal := Cert.ReferenceIdeal.Gen.facts) (hPre_finite_qk_KernelIdeal := Cert.Pre_finite_qk_KernelIdeal.facts) := by
  intro m g m' g' hp hm
  let Qw : FVec Ideal S2x4096x8x64 .bf16 := m' (((0 : Dev Cert.ReferenceIdeal.nD).tc : Thread Cert.ReferenceIdeal.nD Cert.ReferenceIdeal.τ).loc Cert.ReferenceIdeal.main_arg0)
  let Kw : FVec Ideal S2x4096x8x64 .bf16 := m' (((0 : Dev Cert.ReferenceIdeal.nD).tc : Thread Cert.ReferenceIdeal.nD Cert.ReferenceIdeal.τ).loc Cert.ReferenceIdeal.main_arg1)
  let Vw : FVec Ideal S2x4096x8x64 .bf16 := m' (((0 : Dev Cert.ReferenceIdeal.nD).tc : Thread Cert.ReferenceIdeal.nD Cert.ReferenceIdeal.τ).loc Cert.ReferenceIdeal.main_arg2)
  have hQ : ∀ (c : Dev Cert.KernelIdeal.nD) a i h e, argQ m c (ix4 a i h e) = Qw (ix4 a (row c i) h e) := fun c a i h e =>
    (congrFun (hm c).1 (ix4 a i h e)).trans (block_at Qw c _ a i h e)
  have hK : ∀ (c : Dev Cert.KernelIdeal.nD) a i h e, argK m c (ix4 a i h e) = Kw (ix4 a (row c i) h e) := fun c a i h e =>
    (congrFun (hm c).2.1 (ix4 a i h e)).trans (block_at Kw c _ a i h e)
  have hV : ∀ (c : Dev Cert.KernelIdeal.nD) a i h e, argV m c (ix4 a i h e) = Vw (ix4 a (row c i) h e) := fun c a i h e =>
    (congrFun (hm c).2.2 (ix4 a i h e)).trans (block_at Vw c _ a i h e)
  haveI := Cert.Pre_finite_qk_KernelIdeal.facts
  have real : ∀ (c : Dev Cert.KernelIdeal.nD) a i h e, (∃ x : ℝ, argQ m c (ix4 a i h e) = (x : EReal)) ∧ ∃ x : ℝ, argK m c (ix4 a i h e) = (x : EReal) :=
    fun c a i h e => Cert.Pre_finite_qk_KernelIdeal.fn_at (argQ m c) (argK m c) (argV m c) a i h e (congrFun (hp c) (ix4 a i h e))
  have rQ : ∀ a t h e, ∃ x : ℝ, Qw (ix4 a t h e) = (x : EReal) := fun a t h e => by
    obtain ⟨c, i, rfl⟩ := row_own t
    rw [← hQ]
    exact (real c a i h e).1
  have rK : ∀ a t h e, ∃ x : ℝ, Kw (ix4 a t h e) = (x : EReal) := fun a t h e => by
    obtain ⟨c, i, rfl⟩ := row_own t
    rw [← hK]
    exact (real c a i h e).2
  refine ⟨Cert.ReferenceIdeal.Value.refV Qw Kw Vw, ?_, ?_⟩
  · refine (θ_run _ _ _).mono (fun r h c => ?_) (run_main (F := Ideal) m g)
    obtain ⟨e0, e1, e2, e3⟩ := h.1 c
    exact ⟨e3.trans (out_block m Qw Kw Vw hQ hK hV rQ rK c _), e0, e1, e2⟩
  · exact (θ_run _ _ _).mono (fun r h => h 0) (Cert.ReferenceIdeal.Value.run_refV m' g')

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Pre
public import proofs.«01_k».proof.Proof.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_qk_KernelIdeal.facts, Cert.Pre_finite_qk_ReferenceIdeal.facts,
  frame_kernel, frame_kernelIdeal, fun m ρ _ => frame_kernelIdeal m ρ trivial,
  frame_referenceIdeal, fun m ρ _ => frame_referenceIdeal m ρ trivial, trivial, algebraic⟩

end Cert.Proof

end
